-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_tau" .f32 0x41200000#32 ((134217728 / 13421773 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x84x84 : Shape := ⟨3, ![128, 84, 84]⟩
abbrev S_ : Shape := ⟨0, ![]⟩
abbrev S84x84 : Shape := ⟨2, ![84, 84]⟩

class Facts : Prop where
  bcast_S_S128x84x84 : S_.BroadcastsInDim S128x84x84 (![] : Fin 0 → Fin S128x84x84.rank)
  bcast_S_S84x84 : S_.BroadcastsInDim S84x84 (![] : Fin 0 → Fin S84x84.rank)

variable [Facts]

def fn {F : FTy → Type} [FloatOps F] (main_arg0 : FVec F S128x84x84 .f32) (main_arg1 : FVec F S128x84x84 .f32) (main_arg2 : IVec S_ 32) (main_arg3 : FVec F S84x84 .f32) (main_arg4 : IVec S_ 32) : IVec S128x84x84 1 × IVec S128x84x84 1 × IVec S84x84 1 :=
  let main_v0 : FVec F S128x84x84 .f32 := Host.absf main_arg0
  let main_cst : FVec F S_ .f32 := constant S_ .f32 0x7F800000#32
  let main_v1 : FVec F S128x84x84 .f32 := broadcastInDim S128x84x84 ![] bcast_S_S128x84x84 main_cst
  let main_v2 : IVec S128x84x84 1 := cmpf .olt main_v0 main_v1
  let main_v3 : FVec F S128x84x84 .f32 := Host.absf main_arg1
  let main_cst_0 : FVec F S_ .f32 := constant S_ .f32 0x7F800000#32
  let main_v4 : FVec F S128x84x84 .f32 := broadcastInDim S128x84x84 ![] bcast_S_S128x84x84 main_cst_0
  let main_v5 : IVec S128x84x84 1 := cmpf .olt main_v3 main_v4
  let main_v6 : FVec F S84x84 .f32 := Host.absf main_arg3
  let main_cst_1 : FVec F S_ .f32 := constant S_ .f32 0x7F800000#32
  let main_v7 : FVec F S84x84 .f32 := broadcastInDim S84x84 ![] bcast_S_S84x84 main_cst_1
  let main_v8 : IVec S84x84 1 := cmpf .olt main_v6 main_v7
  (main_v2, main_v5, main_v8)
-- ==== Kernel.lean ====
abbrev S128x84x84 : Shape := ⟨3, ![128, 84, 84]⟩
abbrev S_ : Shape := ⟨0, ![]⟩
abbrev S84x84 : Shape := ⟨2, ![84, 84]⟩
abbrev S16x84x84 : Shape := ⟨3, ![16, 84, 84]⟩
abbrev S1x1 : Shape := ⟨2, ![1, 1]⟩
abbrev S4x16x87x84 : Shape := ⟨4, ![4, 16, 87, 84]⟩
abbrev S17x84x84 : Shape := ⟨3, ![17, 84, 84]⟩
abbrev S16x44x44 : Shape := ⟨3, ![16, 44, 44]⟩
abbrev S1x16x44x44 : Shape := ⟨4, ![1, 16, 44, 44]⟩
abbrev S16x44x40 : Shape := ⟨3, ![16, 44, 40]⟩
abbrev S1x16x44x40 : Shape := ⟨4, ![1, 16, 44, 40]⟩
abbrev S16x43x44 : Shape := ⟨3, ![16, 43, 44]⟩
abbrev S1x16x43x44 : Shape := ⟨4, ![1, 16, 43, 44]⟩
abbrev S16x43x40 : Shape := ⟨3, ![16, 43, 40]⟩
abbrev S1x16x43x40 : Shape := ⟨4, ![1, 16, 43, 40]⟩
abbrev S16x44x43 : Shape := ⟨3, ![16, 44, 43]⟩
abbrev S1x16x44x43 : Shape := ⟨4, ![1, 16, 44, 43]⟩
abbrev S16x44x41 : Shape := ⟨3, ![16, 44, 41]⟩
abbrev S1x16x44x41 : Shape := ⟨4, ![1, 16, 44, 41]⟩
abbrev S16x43x43 : Shape := ⟨3, ![16, 43, 43]⟩
abbrev S1x16x43x43 : Shape := ⟨4, ![1, 16, 43, 43]⟩
abbrev S16x43x41 : Shape := ⟨3, ![16, 43, 41]⟩
abbrev S1x16x43x41 : Shape := ⟨4, ![1, 16, 43, 41]⟩
abbrev S16x44x42 : Shape := ⟨3, ![16, 44, 42]⟩
abbrev S1x16x44x42 : Shape := ⟨4, ![1, 16, 44, 42]⟩
abbrev S16x43x42 : Shape := ⟨3, ![16, 43, 42]⟩
abbrev S1x16x43x42 : Shape := ⟨4, ![1, 16, 43, 42]⟩
abbrev S1x84x84 : Shape := ⟨3, ![1, 84, 84]⟩
abbrev S1x16x84x84 : Shape := ⟨4, ![1, 16, 84, 84]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S128x84x84, .f32⟩
  | .hbm, ⟨1, _⟩ => ⟨S128x84x84, .f32⟩
  | .hbm, ⟨2, _⟩ => ⟨S_, .i32⟩
  | .hbm, ⟨3, _⟩ => ⟨S84x84, .f32⟩
  | .hbm, ⟨4, _⟩ => ⟨S_, .i32⟩
  | .hbm, ⟨5, _⟩ => ⟨S16x84x84, .i8⟩
  | .hbm, ⟨6, _⟩ => ⟨S1x1, .f32⟩
  | .local _ .vmem, ⟨0, _⟩ => ⟨S16x84x84, .f32⟩
  | .local _ .vmem, ⟨1, _⟩ => ⟨S16x84x84, .f32⟩
  | .local _ .vmem, ⟨2, _⟩ => ⟨S16x84x84, .f32⟩
  | .local _ .vmem, ⟨3, _⟩ => ⟨S16x84x84, .f32⟩
  | .local _ .vmem, ⟨4, _⟩ => ⟨S16x84x84, .i8⟩
  | .local _ .vmem, ⟨5, _⟩ => ⟨S84x84, .f32⟩
  | .local _ .vmem, ⟨6, _⟩ => ⟨S1x1, .f32⟩
  | .local _ .vmem, ⟨7, _⟩ => ⟨S4x16x87x84, .f32⟩
  | .local _ .vmem, ⟨8, _⟩ => ⟨S17x84x84, .f32⟩
  | _, _ => ⟨S128x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v253 : BitVec 1 := Scalar.cmpi .eq arg0 c7_i32
  let v254 : BitVec 32 := Scalar.extui v253
  let c0_i32_327 : BitVec 32 := 0#32
  let v255 : BitVec 1 := Scalar.cmpi .ne v254 c0_i32_327
  v255

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x84x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x84x84 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x84x84 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S84x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_tau" => some ((134217728 / 13421773 : ℝ) : EReal)
  | _ => none
-- ==== ReferenceIdeal.lean ====
abbrev S128x84x84 : Shape := ⟨3, ![128, 84, 84]⟩
abbrev S_ : Shape := ⟨0, ![]⟩
abbrev S84x84 : Shape := ⟨2, ![84, 84]⟩
abbrev S7056x32 : Shape := ⟨2, ![7056, 32]⟩
abbrev S1 : Shape := ⟨1, ![1]⟩
abbrev S128x7056 : Shape := ⟨2, ![128, 7056]⟩
abbrev S7056x128 : Shape := ⟨2, ![7056, 128]⟩
abbrev S7056 : Shape := ⟨1, ![7056]⟩
abbrev S7056x64 : Shape := ⟨2, ![7056, 64]⟩
abbrev S7056x64x1 : Shape := ⟨3, ![7056, 64, 1]⟩
abbrev S7056x64x128 : Shape := ⟨3, ![7056, 64, 128]⟩
abbrev S7056x1x128 : Shape := ⟨3, ![7056, 1, 128]⟩
abbrev S7056x65x128 : Shape := ⟨3, ![7056, 65, 128]⟩
abbrev S7056x65 : Shape := ⟨2, ![7056, 65]⟩
abbrev S7056x1 : Shape := ⟨2, ![7056, 1]⟩
abbrev S1x7056 : Shape := ⟨2, ![1, 7056]⟩
abbrev S7056x7056 : Shape := ⟨2, ![7056, 7056]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S128x84x84, .f32⟩
  | .hbm, ⟨1, _⟩ => ⟨S128x84x84, .f32⟩
  | .hbm, ⟨2, _⟩ => ⟨S_, .i32⟩
  | .hbm, ⟨3, _⟩ => ⟨S84x84, .f32⟩
  | .hbm, ⟨4, _⟩ => ⟨S_, .i32⟩
  | .hbm, ⟨5, _⟩ => ⟨S7056x32, .i32⟩
  | .hbm, ⟨6, _⟩ => ⟨S1, .f32⟩
  | .hbm, ⟨7, _⟩ => ⟨S128x7056, .f32⟩
  | .hbm, ⟨8, _⟩ => ⟨S7056x128, .f32⟩
  | .hbm, ⟨9, _⟩ => ⟨S128x7056, .f32⟩
  | .hbm, ⟨10, _⟩ => ⟨S7056x128, .f32⟩
  | .hbm, ⟨11, _⟩ => ⟨S7056, .f32⟩
  | .hbm, ⟨12, _⟩ => ⟨S_, .i32⟩
  | .hbm, ⟨13, _⟩ => ⟨S7056x32, .i32⟩
  | .hbm, ⟨14, _⟩ => ⟨S7056x32, .i32⟩
  | .hbm, ⟨15, _⟩ => ⟨S_, .i32⟩
  | .hbm, ⟨16, _⟩ => ⟨S7056x32, .i32⟩
  | .hbm, ⟨17, _⟩ => ⟨S7056x32, .i32⟩
  | .hbm, ⟨18, _⟩ => ⟨S7056x64, .i32⟩
  | .hbm, ⟨19, _⟩ => ⟨S_, .i32⟩
  | .hbm, ⟨20, _⟩ => ⟨S7056x64, .i32⟩
  | .hbm, ⟨21, _⟩ => ⟨S7056x64, .i1⟩
  | .hbm, ⟨22, _⟩ => ⟨S_, .i32⟩
  | .hbm, ⟨23, _⟩ => ⟨S7056x64, .i32⟩
  | .hbm, ⟨24, _⟩ => ⟨S7056x64, .i32⟩
  | .hbm, ⟨25, _⟩ => ⟨S7056x64, .i32⟩
  | .hbm, ⟨26, _⟩ => ⟨S7056x64x1, .i32⟩
  | .hbm, ⟨27, _⟩ => ⟨S7056x64x128, .f32⟩
  | .hbm, ⟨28, _⟩ => ⟨S7056x1x128, .f32⟩
  | .hbm, ⟨29, _⟩ => ⟨S7056x65x128, .f32⟩
  | .hbm, ⟨30, _⟩ => ⟨S7056x1x128, .f32⟩
  | .hbm, ⟨31, _⟩ => ⟨S7056x65x128, .f32⟩
  | .hbm, ⟨32, _⟩ => ⟨S7056x65x128, .f32⟩
  | .hbm, ⟨33, _⟩ => ⟨S_, .f32⟩
  | .hbm, ⟨34, _⟩ => ⟨S7056x65, .f32⟩
  | .hbm, ⟨35, _⟩ => ⟨S_, .f32⟩
  | .hbm, ⟨36, _⟩ => ⟨S7056x65, .f32⟩
  | .hbm, ⟨37, _⟩ => ⟨S7056x65, .f32⟩
  | .hbm, ⟨38, _⟩ => ⟨S_, .f32⟩
  | .hbm, ⟨39, _⟩ => ⟨S7056x65, .f32⟩
  | .hbm, ⟨40, _⟩ => ⟨S7056x65, .f32⟩
  | .hbm, ⟨41, _⟩ => ⟨S7056x65, .f32⟩
  | .hbm, ⟨42, _⟩ => ⟨S7056x1, .f32⟩
  | .hbm, ⟨43, _⟩ => ⟨S7056, .f32⟩
  | .hbm, ⟨44, _⟩ => ⟨S_, .f32⟩
  | .hbm, ⟨45, _⟩ => ⟨S7056, .f32⟩
  | .hbm, ⟨46, _⟩ => ⟨S7056x1, .f32⟩
  | .hbm, ⟨47, _⟩ => ⟨S1x7056, .f32⟩
  | .hbm, ⟨48, _⟩ => ⟨S7056x7056, .f32⟩
  | .hbm, ⟨49, _⟩ => ⟨S7056x7056, .f32⟩
  | .hbm, ⟨50, _⟩ => ⟨S7056x7056, .f32⟩
  | .hbm, ⟨51, _⟩ => ⟨S7056x7056, .f32⟩
  | .hbm, ⟨52, _⟩ => ⟨S7056x7056, .f32⟩
  | .hbm, ⟨53, _⟩ => ⟨S1x7056, .f32⟩
  | .hbm, ⟨54, _⟩ => ⟨S7056x7056, .f32⟩
  | .hbm, ⟨55, _⟩ => ⟨S7056x7056, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x1, .f32⟩
  | _, _ => ⟨S128x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Table.lean ====
/- The two literal tables of the programs, read entry by entry: the reference's table of sampled pixel numbers and the
   kernel's table of how often each of the sixteen shifts is sampled at each pixel. What is checked of them here, pixel by
   pixel, is that every sampled pixel number is one of the sixteen shifts of its pixel and that the kernel's counts are the
   numbers of times each shift is sampled. -/
module

public import proofs.«01_k».proof.KernelIdeal
public import proofs.«01_k».proof.ReferenceIdeal

@[expose] public section

noncomputable section

namespace Cert.Tab

/-- The pixel that shift `s` of the sixteen reaches from pixel `n` of the 84×84 image, rows and columns wrapping. -/
def shift (n s : Nat) : Nat := 84 * ((n / 84 + 40 + s / 4) % 84) + (n % 84 + 40 + s % 4) % 84

/-- The word of the reference's table that holds the `k`-th and the `32 + k`-th sampled pixel number of pixel `n`. -/
def word (n k : Nat) : Nat := (Cert.ReferenceIdeal.lit0t (32 * n + k)).toNat

/-- The `k`-th sampled pixel number of pixel `n`, in the reference's table: the low 13 bits of a word or the bits above. -/
def sel (n k : Nat) : Nat := bif Nat.ble 32 k then word n (k - 32) / 8192 else word n k % 8192

/-- How often shift `s` is sampled at pixel `n`, in the kernel's table. -/
def cnt (n s : Nat) : Nat := (Cert.KernelIdeal.lit0t (7056 * s + n)).toNat

/-- The shift that reaches pixel number `w` from pixel `n`, were it one of the sixteen. -/
def codeOf (n w : Nat) : Nat := 4 * ((w / 84 + 128 - n / 84) % 84) + (w % 84 + 128 - n % 84) % 84

/-- The shift that the `k`-th sample of pixel `n` is. -/
def code (n k : Nat) : Nat := codeOf n (sel n k)

/-- The `k`-th sample of pixel `n` is one of the sixteen shifts. -/
def entryOk (n k : Nat) : Bool := Nat.ble (code n k) 15 && Nat.beq (shift n (code n k)) (sel n k)

/-- The samples' shifts of pixel `n` tallied in base 256: digit `s` is how many of the first `K` samples are shift `s`. -/
def tally (n : Nat) : Nat → Nat := fun K => Nat.rec 0 (fun k a => a + 256 ^ code n k) K

/-- The kernel's counts of pixel `n` as one base-256 number of `S` digits. -/
def counts (n : Nat) : Nat → Nat := fun S => Nat.rec 0 (fun s a => a + 256 ^ s * cnt n s) S

/-- The first `K` samples of pixel `n` are all shifts. -/
def entriesOk (n : Nat) : Nat → Bool := fun K => Nat.rec true (fun k b => entryOk n k && b) K

/-- Pixel `n`'s samples are shifts and their tally is the kernel's counts. -/
def pixelOk (n : Nat) : Bool := entriesOk n 64 && Nat.beq (tally n 64) (counts n 16)

/-- The first `J` pixels from `16 b` on are as they should be. -/
def pixelsOk (b : Nat) : Nat → Bool := fun J => Nat.rec true (fun j a => pixelOk (16 * b + j) && a) J

/-- The sixteen pixels of block `b` are as they should be. -/
def blockOk (b : Nat) : Bool := pixelsOk b 16

end Cert.Tab
-- ==== Proof.Rows.lean ====
/- The reference's arrays of feature vectors: each image read as rows of 128 channels by pixel, and for every pixel its own row
   followed by the rows of the 64 sampled pixels. -/
module

public import proofs.«01_k».proof.Proof.Table
public import proofs.«01_k».proof.Proof.Gen.ReferenceIdeal.Run
public import Idealize.ShloMosaic.Lib.ValueIdx
public import Idealize.ShloMosaic.Lib.Pipeline.Value
public import Idealize.ShloMosaic.Lib.Pointwise.TacticCore

@[expose] public section

noncomputable section

namespace Cert.Ref

open Cert.ReferenceIdeal Cert.ReferenceIdeal.Gen Idealize.ShloMosaic Idealize.ShloMosaic.TcCoe Idealize.SL.Sem

/-- An image of 128 channels as rows by pixel. -/
def row (A : Vec Ideal S128x84x84 .f32) : Vec Ideal S7056x128 .f32 :=
  transpose S7056x128 [1, 0] (shapeCast S128x7056 A shapeCasts_S128x84x84_S128x7056) transposes_S128x7056_S7056x128_1_0

/-- The channel `ch` of pixel `n`'s row is the image there. -/
theorem row_apply (A : Vec Ideal S128x84x84 .f32) (n : Fin 7056) (ch : Fin 128) :
    row A (ix2 n ch) = A (ix3 ch ⟨n.val / 84, by have := n.isLt; omega⟩ ⟨n.val % 84, Nat.mod_lt _ (by decide)⟩) := by
  unfold row
  rw [transpose_apply [1, 0] _ transposes_S128x7056_S7056x128_1_0 (ix2 n ch) (ix2 ch n) (fun b => by
    match b with
    | ⟨0, _⟩ => rfl
    | ⟨1, _⟩ => rfl)]
  refine shapeCast_apply A _ _ _ ?_
  rw [Shape.rowMajor_val_three, Shape.rowMajor_val_two]
  show (ch.val * 84 + n.val / 84) * 84 + n.val % 84 = ch.val * 7056 + n.val
  omega

/-- The table's words, by pixel: each holds two sampled pixel numbers. -/
def words : Vec Ideal S7056x32 .i32 := fun i => lit0 (S7056x32.rowMajor i)

/-- The sampled pixels, by pixel and sample: the words' low 13 bits, then the bits above. -/
def table : Vec Ideal S7056x64 .i32 :=
  concatenate S7056x64 1 [⟨S7056x32, andi words (broadcastInDim S7056x32 ![] bcast_S_S7056x32 (constantI S_ 32 8191#32))⟩,
    ⟨S7056x32, Host.shrsi words (broadcastInDim S7056x32 ![] bcast_S_S7056x32 (constantI S_ 32 13#32))⟩]
    concatenates_S7056x32_S7056x32_S7056x64_d1

/-- The table of words, at its positions. -/
theorem lit0_val (i : Fin 225792) : lit0 i = lit0t i.val := by
  cases i with
  | mk n h =>
    delta lit0
    generalize lit0t = f
    rfl

/-- The table's word is the word the counting names. -/
theorem words_toNat (n : Fin 7056) (k : Fin 32) : (words (ix2 n k) : BitVec 32).toNat = Tab.word n.val k.val := by
  have hr : (S7056x32.rowMajor (ix2 n k)).val = 32 * n.val + k.val := by
    rw [Shape.rowMajor_val_two]
    show n.val * 32 + k.val = _
    omega
  have ht : words (ix2 n k) = lit0t (32 * n.val + k.val) := (lit0_val (S7056x32.rowMajor (ix2 n k))).trans (congrArg lit0t hr)
  exact congrArg BitVec.toNat ht

/-- A word's low 13 bits. -/
theorem low_toNat (w : BitVec 32) : (w &&& 8191#32).toNat = w.toNat % 8192 := by
  rw [BitVec.toNat_and]
  exact Nat.and_two_pow_sub_one_eq_mod w.toNat 13

/-- A word's bits above the 13th, of a word that is not negative. -/
theorem high_toNat (w : BitVec 32) (h : w.toNat / 8192 < 7056) : (IntOp.shrsi .host w 13#32).toNat = w.toNat / 8192 := by
  have hm : w.msb = false := by
    rw [BitVec.msb_eq_false_iff_two_mul_lt]
    omega
  unfold IntOp.shrsi
  rw [if_pos (by decide)]
  show (w.sshiftRight (13#32).toNat).toNat = _
  rw [BitVec.sshiftRight_eq_of_msb_false hm, BitVec.toNat_ushiftRight, Nat.shiftRight_eq_div_pow]
  rfl

/-- The table's entry is the sampled pixel number the counting names, where that is one. -/
theorem table_toNat (n : Fin 7056) (k : Fin 64) (h : Tab.sel n.val k.val < 7056) :
    (table (ix2 n k) : BitVec 32).toNat = Tab.sel n.val k.val := by
  have hk := k.isLt
  unfold Tab.sel at h ⊢
  unfold table
  by_cases h32 : k.val < 32
  · have hb : Nat.ble 32 k.val = false :=
      Bool.eq_false_iff.mpr fun he => Nat.not_le.mpr h32 (Nat.le_of_ble_eq_true he)
    rw [hb] at h ⊢
    rw [concatenate_pair_apply_left (t := S7056x64) (s₁ := S7056x32) (s₂ := S7056x32) 1 _ _ _ (ix2 n k) rfl (ix2 n ⟨k.val, h32⟩) (fun (b : Fin 2) => by
      match b with
      | ⟨0, _⟩ => rfl
      | ⟨1, _⟩ => rfl)]
    refine (low_toNat _).trans ?_
    rw [words_toNat]
    rfl
  · have hb : Nat.ble 32 k.val = true := Nat.ble_eq_true_of_le (by omega)
    rw [hb] at h ⊢
    have hw := words_toNat n ⟨k.val - 32, by omega⟩
    have hlt : Tab.word n.val (k.val - 32) / 8192 < 7056 := h
    rw [concatenate_pair_apply_right (t := S7056x64) (s₁ := S7056x32) (s₂ := S7056x32) 1 _ _ _ (ix2 n k) rfl rfl (ix2 n ⟨k.val - 32, by omega⟩) (fun (b : Fin 2) hb => by
      match b with
      | ⟨0, _⟩ => rfl
      | ⟨1, _⟩ => exact absurd rfl hb) (by show (k.val - 32) + 32 = k.val; omega)]
    refine (high_toNat _ (by rw [hw]; exact hlt)).trans ?_
    rw [hw]
    rfl

/-- The sampled pixels as the gather's start indices: an entry below zero counts from the end. -/
def starts : Vec Ideal S7056x64x1 .i32 :=
  broadcastInDim S7056x64x1 ![0, 1] bcast_S7056x64_S7056x64x1_0_1
    (select (cmpi .slt table (broadcastInDim S7056x64 ![] bcast_S_S7056x64 (constantI S_ 32 0#32)))
      (addi table (broadcastInDim S7056x64 ![] bcast_S_S7056x64 (constantI S_ 32 7056#32))) table)

/-- A start index that names a pixel is the table's entry. -/
theorem starts_apply (n : Fin 7056) (k : Fin 64) (h : Tab.sel n.val k.val < 7056) :
    (starts (ix3 n k 0) : BitVec 32).toInt.toNat = Tab.sel n.val k.val := by
  unfold starts
  rw [broadcastInDim_apply ![0, 1] bcast_S7056x64_S7056x64x1_0_1 _ (ix3 n k 0) (ix2 n k) (fun a => by
    match a with
    | ⟨0, _⟩ => rfl
    | ⟨1, _⟩ => rfl)]
  have ht := table_toNat n k h
  have hI : (table (ix2 n k) : BitVec 32).toInt = Tab.sel n.val k.val := by
    rw [BitVec.toInt_eq_toNat_cond, if_pos (by omega)]; omega
  have hc : (cmpi .slt table (broadcastInDim S7056x64 ![] bcast_S_S7056x64 (constantI S_ 32 0#32)) : IVec S7056x64 1) (ix2 n k) = 0#1 := by
    show BitVec.ofBool ((table (ix2 n k) : BitVec 32).slt 0#32) = 0#1
    have : (table (ix2 n k) : BitVec 32).slt 0#32 = false := by
      unfold BitVec.slt
      rw [hI]
      exact decide_eq_false (by simp)
    rw [this]; rfl
  show (Scalar.select _ _ _ : BitVec 32).toInt.toNat = _
  rw [hc]
  show (table (ix2 n k) : BitVec 32).toInt.toNat = _
  rw [hI]
  rfl

/-- Rows gathered at start indices: the row at the start index, read signed and kept in range. -/
theorem gather_rows (x : Vec Ideal S7056x128 .f32) (idx : IVec S7056x64x1 32) (n : Fin 7056) (k : Fin 64) (ch : Fin 128) :
    Host.gather gather_S7056x128_S7056x64x1_S7056x64x128_2_0_n_n_0_2_1128 x idx (ix3 n k ch)
      = x (ix2 ⟨min (idx (ix3 n k 0)).toInt.toNat 7055, by omega⟩ ch) := by
  unfold Host.gather
  congr 1
  funext a
  refine Fin.ext ?_
  generalize hd : gather_S7056x128_S7056x64x1_S7056x64x128_2_0_n_n_0_2_1128 = d
  show d.start (ix3 n k ch) idx a + d.batchCoord (ix3 n k ch) a + d.offCoord (ix3 n k ch) a = _
  subst hd
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S7056x128_S7056x64x1_S7056x64x128_2_0_n_n_0_2_1128.startIndexMap from List.mem_singleton.mpr rfl)]
    have hsi : gather_S7056x128_S7056x64x1_S7056x64x128_2_0_n_n_0_2_1128.siIdx (ix3 n k ch)
        ⟨List.idxOf (0 : Fin 2) gather_S7056x128_S7056x64x1_S7056x64x128_2_0_n_n_0_2_1128.startIndexMap,
          List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    exact congrArg (fun z => min (idx z).toInt.toNat 7055) hsi
  · rw [GatherDims.batchCoord_eq_zero _ _ _ List.not_mem_nil]
    unfold GatherDims.start
    rw [dif_neg (show ¬ (1 : Fin 2) ∈ gather_S7056x128_S7056x64x1_S7056x64x128_2_0_n_n_0_2_1128.startIndexMap from by
      intro h; exact absurd (List.mem_singleton.mp h) (by decide))]
    unfold GatherDims.offCoord
    rw [dif_pos ((GatherDims.mem_sKept _ _).mpr ⟨fun h => absurd (List.mem_singleton.mp h) (by decide), List.not_mem_nil⟩)]
    show 0 + 0 + _ = ch.val
    simp only [Nat.zero_add]
    rfl

/-- Every pixel's own row and its sampled rows. -/
def samp (B : Vec Ideal S128x84x84 .f32) : Vec Ideal S7056x65x128 .f32 :=
  concatenate S7056x65x128 1 [⟨S7056x1x128, broadcastInDim S7056x1x128 ![0, 2] bcast_S7056x128_S7056x1x128_0_2 (row B)⟩,
    ⟨S7056x64x128, Host.gather gather_S7056x128_S7056x64x1_S7056x64x128_2_0_n_n_0_2_1128 (row B) starts⟩]
    concatenates_S7056x1x128_S7056x64x128_S7056x65x128_d1

/-- The first is the own row. -/
theorem samp_own (B : Vec Ideal S128x84x84 .f32) (n : Fin 7056) (ch : Fin 128) : samp B (ix3 n 0 ch) = row B (ix2 n ch) := by
  unfold samp
  refine (concatenate_pair_apply_left (t := S7056x65x128) (s₁ := S7056x1x128) (s₂ := S7056x64x128) 1 _ _ _ (ix3 n 0 ch) rfl (ix3 n 0 ch) (fun (b : Fin 3) => by
    match b with
    | ⟨0, _⟩ => rfl
    | ⟨1, _⟩ => rfl
    | ⟨2, _⟩ => rfl)).trans ?_
  exact broadcastInDim_apply (s := S7056x128) (t := S7056x1x128) ![0, 2] bcast_S7056x128_S7056x1x128_0_2 (row B) (ix3 n 0 ch) (ix2 n ch) (fun a => by
    match a with
    | ⟨0, _⟩ => rfl
    | ⟨1, _⟩ => rfl)

/-- The others are the rows of the sampled pixels. -/
theorem samp_sel (B : Vec Ideal S128x84x84 .f32) (n : Fin 7056) (k : Fin 64) (ch : Fin 128) (h : Tab.sel n.val k.val < 7056) :
    samp B (ix3 n k.succ ch) = row B (ix2 ⟨Tab.sel n.val k.val, h⟩ ch) := by
  unfold samp
  refine (concatenate_pair_apply_right (t := S7056x65x128) (s₁ := S7056x1x128) (s₂ := S7056x64x128) 1 _ _ _ (ix3 n k.succ ch) rfl rfl (ix3 n k ch) (fun (b : Fin 3) hb => by
    match b with
    | ⟨0, _⟩ => rfl
    | ⟨1, _⟩ => exact absurd rfl hb
    | ⟨2, _⟩ => rfl) rfl).trans ?_
  rw [gather_rows]
  refine congrArg (fun z => row B (ix2 z ch)) (Fin.ext ?_)
  show min (starts (ix3 n k 0) : BitVec 32).toInt.toNat 7055 = _
  rw [starts_apply n k h]
  exact Nat.min_eq_left (by omega)

end Cert.Ref

end
-- ==== Proof.RefVal.lean ====
/- The reference's result, read: a formula of the exponentials by pixel and sample and of the mask, in sums over pixels. -/
module

public import proofs.«01_k».proof.Proof.Rows
public import Idealize.ShloMosaic.Lib.Pointwise.Reduce

@[expose] public section

noncomputable section

namespace Cert.Ref

open Cert.ReferenceIdeal Cert.ReferenceIdeal.Gen Idealize.ShloMosaic Idealize.ShloMosaic.TcCoe Idealize.SL.Sem

/-- A host quotient, read. -/
theorem divf_apply {s : Shape} (X Y : Vec Ideal s .f32) (i : s.Idx) :
    Host.divf (F := Ideal) (φ := .f32) X Y i = Ideal.div (X i) (Y i) := rfl

/-- The products by pixel, sample and channel. -/
def prods (A B : Vec Ideal S128x84x84 .f32) : Vec Ideal S7056x65x128 .f32 :=
  mulf (F := Ideal) (φ := .f32) (broadcastInDim S7056x65x128 ![0, 1, 2] bcast_S7056x1x128_S7056x65x128_0_1_2
        (broadcastInDim S7056x1x128 ![0, 2] bcast_S7056x128_S7056x1x128_0_2 (row A))) (samp B)

/-- One product. -/
theorem prods_apply (A B : Vec Ideal S128x84x84 .f32) (n : Fin 7056) (k : Fin 65) (ch : Fin 128) :
    prods A B (ix3 n k ch) = (row A (ix2 n ch) : EReal) * (samp B (ix3 n k ch) : EReal) := by
  unfold prods
  generalize row A = X
  generalize samp B = Y
  refine congrArg (fun x : EReal => x * (Y (ix3 n k ch) : EReal)) ?_
  refine (broadcastInDim_apply (s := S7056x1x128) (t := S7056x65x128) ![0, 1, 2] bcast_S7056x1x128_S7056x65x128_0_1_2 _ (ix3 n k ch) (ix3 n 0 ch) (fun a => by
    match a with
    | ⟨0, _⟩ => rfl
    | ⟨1, _⟩ => rfl
    | ⟨2, _⟩ => rfl)).trans ?_
  exact broadcastInDim_apply (s := S7056x128) (t := S7056x1x128) ![0, 2] bcast_S7056x128_S7056x1x128_0_2 X (ix3 n 0 ch) (ix2 n ch) (fun a => by
    match a with
    | ⟨0, _⟩ => rfl
    | ⟨1, _⟩ => rfl)

/-- The exponentials of the products: of one plus their sum over the channels, over the temperature. -/
def exps (X : Vec Ideal S7056x65x128 .f32) : Vec Ideal S7056x65 .f32 :=
  Host.exp (F := Ideal) (φ := .f32) (Host.divf (addf (broadcastInDim S7056x65 ![] bcast_S_S7056x65 (constant S_ .f32 0x3F800000#32))
    (Host.reduceAdd X (constant S_ .f32 0x00000000#32) reducesTo_S7056x65x128_S7056x65_d2 h_S_))
    (broadcastInDim S7056x65 ![] bcast_S_S7056x65 (constant S_ .f32 0x3DCCCCCD#32)))

/-- One exponential, of any products. -/
theorem exps_apply (X : Vec Ideal S7056x65x128 .f32) (n : Fin 7056) (k : Fin 65) :
    exps X (ix2 n k) = Ideal.exp (Ideal.div (Ideal.ofBits .f32 0x3F800000#32
      + (Ideal.ofBits .f32 0x00000000#32 + ∑ ch : Fin 128, (X (ix3 n k ch) : EReal))) (Ideal.ofBits .f32 0x3DCCCCCD#32)) :=
  congrArg (fun x : EReal => Ideal.exp (Ideal.div (Ideal.ofBits .f32 0x3F800000#32 + x) (Ideal.ofBits .f32 0x3DCCCCCD#32)))
    (Ideal.hostReduceAdd_r3_a2 reducesTo_S7056x65x128_S7056x65_d2 X (Ideal.ofBits .f32 0x00000000#32) (ix2 n k))

/-- The exponentials by pixel and sample. -/
def sims (A B : Vec Ideal S128x84x84 .f32) : Vec Ideal S7056x65 .f32 := exps (prods A B)

/-- One exponential. -/
theorem sims_apply (A B : Vec Ideal S128x84x84 .f32) (n : Fin 7056) (k : Fin 65) :
    sims A B (ix2 n k) = Ideal.exp (Ideal.div (Ideal.ofBits .f32 0x3F800000#32
      + (Ideal.ofBits .f32 0x00000000#32 + ∑ ch : Fin 128, (row A (ix2 n ch) : EReal) * (samp B (ix3 n k ch) : EReal)))
      (Ideal.ofBits .f32 0x3DCCCCCD#32)) := by
  unfold sims
  rw [exps_apply]
  simp only [prods_apply]

/-- Every row the pixels' own exponentials. -/
def owns (E : Vec Ideal S7056x65 .f32) : Vec Ideal S7056x7056 .f32 :=
  broadcastInDim S7056x7056 ![0, 1] bcast_S1x7056_S7056x7056_0_1 (broadcastInDim S1x7056 ![1] bcast_S7056_S1x7056_1
      (shapeCast S7056 (extractStridedSlice S7056x1 ![0, 0] E slices_S7056x65_S7056x1_0_0) shapeCasts_S7056x1_S7056))

/-- Every column the pixels' sums of exponentials. -/
def sums (E : Vec Ideal S7056x65 .f32) : Vec Ideal S7056x7056 .f32 :=
  broadcastInDim S7056x7056 ![0, 1] bcast_S7056x1_S7056x7056_0_1 (broadcastInDim S7056x1 ![0] bcast_S7056_S7056x1_0
      (Host.reduceAdd (F := Ideal) (φ := .f32) E (constant S_ .f32 0x00000000#32) reducesTo_S7056x65_S7056_d1 h_S_))

/-- One own exponential. -/
theorem owns_apply (E : Vec Ideal S7056x65 .f32) (i j : Fin 7056) : owns E (ix2 i j) = E (ix2 j 0) := by
  refine (broadcastInDim_apply (s := S1x7056) (t := S7056x7056) ![0, 1] bcast_S1x7056_S7056x7056_0_1 _ (ix2 i j) (ix2 0 j) (fun a => by
    match a with
    | ⟨0, _⟩ => rfl
    | ⟨1, _⟩ => rfl)).trans ?_
  refine (broadcastInDim_apply (s := S7056) (t := S1x7056) ![1] bcast_S7056_S1x7056_1 _ (ix2 0 j) (ix1 j) (fun a => by
    match a with
    | ⟨0, _⟩ => rfl)).trans ?_
  refine (shapeCast_apply _ shapeCasts_S7056x1_S7056 (ix1 j) (ix2 j 0) ?_).trans ?_
  · rw [Shape.rowMajor_val_two, Shape.rowMajor_val_one]
    show j.val * 1 + 0 = j.val
    omega
  · exact extractStridedSlice_apply ![0, 0] E slices_S7056x65_S7056x1_0_0 (ix2 j 0) (ix2 j 0) (fun a => by
      match a with
      | ⟨0, _⟩ => show j.val = 0 + j.val; omega
      | ⟨1, _⟩ => rfl)

/-- One sum of exponentials. -/
theorem sums_apply (E : Vec Ideal S7056x65 .f32) (i j : Fin 7056) :
    sums E (ix2 i j) = Ideal.ofBits .f32 0x00000000#32 + ∑ k : Fin 65, (E (ix2 i k) : EReal) := by
  refine (broadcastInDim_apply (s := S7056x1) (t := S7056x7056) ![0, 1] bcast_S7056x1_S7056x7056_0_1 _ (ix2 i j) (ix2 i 0) (fun a => by
    match a with
    | ⟨0, _⟩ => rfl
    | ⟨1, _⟩ => rfl)).trans ?_
  refine (broadcastInDim_apply (s := S7056) (t := S7056x1) ![0] bcast_S7056_S7056x1_0 _ (ix2 i 0) (ix1 i) (fun a => by
    match a with
    | ⟨0, _⟩ => rfl)).trans ?_
  exact Ideal.hostReduceAdd_r2_a1 reducesTo_S7056x65_S7056_d1 E (Ideal.ofBits .f32 0x00000000#32) (ix1 i)

/-- The matrix of quotients: the own exponentials over the sums. -/
def quot (E : Vec Ideal S7056x65 .f32) : Vec Ideal S7056x7056 .f32 := Host.divf (F := Ideal) (φ := .f32) (owns E) (sums E)

/-- One quotient. -/
theorem quot_apply (E : Vec Ideal S7056x65 .f32) (i j : Fin 7056) :
    quot E (ix2 i j) = Ideal.div (E (ix2 j 0)) (Ideal.ofBits .f32 0x00000000#32 + ∑ k : Fin 65, (E (ix2 i k) : EReal)) := by
  unfold quot
  rw [divf_apply, owns_apply, sums_apply]

/-- The mask against every pixel: the matrix whose every row is the mask. -/
def masks (M : Vec Ideal S84x84 .f32) : Vec Ideal S7056x7056 .f32 :=
  broadcastInDim S7056x7056 ![0, 1] bcast_S1x7056_S7056x7056_0_1 (broadcastInDim S1x7056 ![1] bcast_S7056_S1x7056_1
    (shapeCast S7056 M shapeCasts_S84x84_S7056))

/-- One mask element. -/
theorem masks_apply (M : Vec Ideal S84x84 .f32) (i j : Fin 7056) :
    masks M (ix2 i j) = M (ix2 ⟨j.val / 84, by have := j.isLt; omega⟩ ⟨j.val % 84, Nat.mod_lt _ (by decide)⟩) := by
  refine (broadcastInDim_apply (s := S1x7056) (t := S7056x7056) ![0, 1] bcast_S1x7056_S7056x7056_0_1 _ (ix2 i j) (ix2 0 j) (fun a => by
    match a with
    | ⟨0, _⟩ => rfl
    | ⟨1, _⟩ => rfl)).trans ?_
  refine (broadcastInDim_apply (s := S7056) (t := S1x7056) ![1] bcast_S7056_S1x7056_1 _ (ix2 0 j) (ix1 j) (fun a => by
    match a with
    | ⟨0, _⟩ => rfl)).trans ?_
  refine shapeCast_apply M shapeCasts_S84x84_S7056 (ix1 j) _ ?_
  rw [Shape.rowMajor_val_two, Shape.rowMajor_val_one]
  show j.val / 84 * 84 + j.val % 84 = j.val
  omega

/-- The loss of the quotients and the masks. -/
def loss (Q M : Vec Ideal S7056x7056 .f32) : Vec Ideal S1x1 .f32 :=
  shapeCast S1x1 (addf (F := Ideal) (φ := .f32) (mulf (constant S_ .f32 0x3F800000#32) (Host.divf (Host.reduceAdd (mulf (Host.negf (Host.log Q)) M)
      (constant S_ .f32 0x00000000#32) reducesTo_S7056x7056_S_d0_1 h_S_) (constant S_ .f32 0x4C3DEC40#32)))
    (mulf (constant S_ .f32 0x3F800000#32) (Host.divf (Host.reduceAdd (constant S1 .f32 0x00000000#32) (constant S_ .f32 0x00000000#32)
      reducesTo_S1_S_d0 h_S_) (constant S_ .f32 0x3F800000#32)))) shapeCasts_S_S1x1

/-- The loss, at its one index. -/
theorem loss_apply (Q M : Vec Ideal S7056x7056 .f32) (i : S1x1.Idx) :
    loss Q M i = Ideal.ofBits .f32 0x3F800000#32 * Ideal.div (Ideal.ofBits .f32 0x00000000#32
        + ∑ a : Fin 7056, ∑ b : Fin 7056, (-Ideal.log (Q (ix2 a b))) * (M (ix2 a b) : EReal)) (Ideal.ofBits .f32 0x4C3DEC40#32)
      + Ideal.ofBits .f32 0x3F800000#32 * Ideal.div (Ideal.ofBits .f32 0x00000000#32 + ∑ _k : Fin 1, Ideal.ofBits .f32 0x00000000#32)
          (Ideal.ofBits .f32 0x3F800000#32) := by
  have i0 : (i 0).val < 1 := (i 0).isLt
  have i1 : (i 1).val < 1 := (i 1).isLt
  unfold loss
  refine (shapeCast_apply _ shapeCasts_S_S1x1 i ix0 ?_).trans ?_
  · rw [Shape.rowMajor_val_two]
    have : (S_.rowMajor ix0).val < 1 := (S_.rowMajor ix0).isLt
    show (S_.rowMajor ix0).val = (i 0).val * 1 + (i 1).val
    omega
  · refine congrArg₂ (fun x y : EReal => Ideal.ofBits .f32 0x3F800000#32 * Ideal.div x (Ideal.ofBits .f32 0x4C3DEC40#32)
      + Ideal.ofBits .f32 0x3F800000#32 * Ideal.div y (Ideal.ofBits .f32 0x3F800000#32)) ?_ ?_
    · exact Ideal.hostReduceAdd_r2_a01 reducesTo_S7056x7056_S_d0_1 (mulf (F := Ideal) (φ := .f32) (Host.negf (Host.log Q)) M)
        (Ideal.ofBits .f32 0x00000000#32) ix0
    · exact Ideal.hostReduceAdd_r1_a0 reducesTo_S1_S_d0 (constant (F := Ideal) S1 .f32 0x00000000#32) (Ideal.ofBits .f32 0x00000000#32) ix0

/-- The reference's result is the loss of the exponentials' quotients and of the mask. -/
theorem res_eq (m : (ℓ : Loc nD τ sig) → Buf (Elt Ideal) ℓ) (c : Dev nD) :
    Cert.ReferenceIdeal.Value.res_out0 m c = loss (quot (sims (m ((c.tc : Thread nD τ).loc main_arg0)) (m ((c.tc : Thread nD τ).loc main_arg1))))
      (masks (m ((c.tc : Thread nD τ).loc main_arg3))) := by
  show Cert.ReferenceIdeal.Value.res_main_v48 m c = _
  unfold Cert.ReferenceIdeal.Value.res_main_v48
  rfl

end Cert.Ref

end
-- ==== Proof.Col.lean ====
/- The four column-shifted copies of the momentum block that the kernel lays out in its scratch array: sixteen stores, each of
   one corner of the block, together hold plane `j` row `r` column `q` of channel `ch` at the block's row `(r + 40) mod 84`
   and column `(q + 40 + j) mod 84`. -/
module

public import proofs.«01_k».proof.Proof.Gen.KernelIdeal.Value
public import Idealize.ShloMosaic.Lib.Pipeline.ReadBack
public import Idealize.ShloMosaic.Lib.Pipeline.Value
public import Idealize.ShloMosaic.Lib.ValueIdxCore
public import Idealize.ShloMosaic.Lib.Pointwise.Reduce

@[expose] public section

noncomputable section

namespace Cert.Body

open Cert.KernelIdeal Cert.KernelIdeal.Gen Idealize.ShloMosaic Idealize.ShloMosaic.TcCoe Idealize.SL.Sem

variable {F : FTy → Type} [FloatOps F] [Named F]

/-- The scratch array of shifted copies of a momentum block `x`. -/
def colArr (x : Vec F S16x84x84 .f32) : Vec F S4x16x87x84 .f32 := fun y =>
  x (ix3 ⟨(y 1).val, (y 1).isLt⟩ ⟨((y 2).val + 40) % 84, Nat.mod_lt _ (by decide)⟩
    ⟨((y 3).val + 40 + (y 0).val) % 84, Nat.mod_lt _ (by decide)⟩)

/-- One store of a corner of the block: its payload is the array of shifted copies at the stored rectangle. -/
theorem corner_eq {A B j r q r' q' : Nat} (x : Vec F S16x84x84 .f32)
    (h : ∀ a, (![0, r, q] : Fin 3 → Nat) a + (![16, A, B] : Fin 3 → Nat) a ≤ S16x84x84.size a)
    (hc : (⟨3, ![16, A, B]⟩ : Shape).ShapeCasts ⟨4, ![1, 16, A, B]⟩)
    (h' : ∀ a, (![j, 0, r', q'] : Fin 4 → Nat) a + (![1, 16, A, B] : Fin 4 → Nat) a ≤ S4x16x87x84.size a)
    (hr : ∀ a < A, (r' + a + 40) % 84 = r + a) (hq : ∀ b < B, (q' + b + 40 + j) % 84 = q + b)
    (z : (⟨4, ![1, 16, A, B]⟩ : Shape).Idx) :
    shapeCast ⟨4, ![1, 16, A, B]⟩ (View.ld x (Rect.unit ![0, r, q] ![16, A, B] h)) hc z
      = colArr x ((Rect.unit (s := S4x16x87x84) ![j, 0, r', q'] ![1, 16, A, B] h').emb z) := by
  rw [shapeCast_addUnit_apply (n := 3) ![16, A, B]]
  have z0 : (z 0).val < 1 := (z 0).isLt
  have z2 : (z 2).val < A := (z 2).isLt
  have z3 : (z 3).val < B := (z 3).isLt
  have e2 := hr _ z2
  have e3 := hq _ z3
  show x _ = x _
  congr 1
  funext a
  refine Fin.ext ?_
  match a with
  | ⟨0, _⟩ =>
    show 0 + 1 * (z 1).val = 0 + 1 * (z 1).val
    rfl
  | ⟨1, _⟩ =>
    show r + 1 * (z 2).val = (r' + 1 * (z 2).val + 40) % 84
    omega
  | ⟨2, _⟩ =>
    show q + 1 * (z 3).val = (q' + 1 * (z 3).val + 40 + (j + 1 * (z 0).val)) % 84
    omega

/-- The sixteen stores, last first. -/
abbrev colPieces (x1 : Vec F S16x84x84 .f32) : List (View.Piece (Elt F) S4x16x87x84 .f32) :=
    [⟨Rect.unit ![3, 0, 44, 41] ![1, 16, 43, 43] inb_S4x16x87x84_S1x16x43x43_3_0_44_41, k0_pay32 (View.ld x1 (Rect.unit ![0, 0, 0] ![16, 43, 43] inb_S16x84x84_S16x43x43_0_0_0))⟩,
      ⟨Rect.unit ![3, 0, 44, 0] ![1, 16, 43, 41] inb_S4x16x87x84_S1x16x43x41_3_0_44_0, k0_pay31 (View.ld x1 (Rect.unit ![0, 0, 43] ![16, 43, 41] inb_S16x84x84_S16x43x41_0_0_43))⟩,
      ⟨Rect.unit ![3, 0, 0, 41] ![1, 16, 44, 43] inb_S4x16x87x84_S1x16x44x43_3_0_0_41, k0_pay30 (View.ld x1 (Rect.unit ![0, 40, 0] ![16, 44, 43] inb_S16x84x84_S16x44x43_0_40_0))⟩,
      ⟨Rect.unit ![3, 0, 0, 0] ![1, 16, 44, 41] inb_S4x16x87x84_S1x16x44x41_3_0_0_0, k0_pay29 (View.ld x1 (Rect.unit ![0, 40, 43] ![16, 44, 41] inb_S16x84x84_S16x44x41_0_40_43))⟩,
      ⟨Rect.unit ![2, 0, 44, 42] ![1, 16, 43, 42] inb_S4x16x87x84_S1x16x43x42_2_0_44_42, k0_pay28 (View.ld x1 (Rect.unit ![0, 0, 0] ![16, 43, 42] inb_S16x84x84_S16x43x42_0_0_0))⟩,
      ⟨Rect.unit ![2, 0, 44, 0] ![1, 16, 43, 42] inb_S4x16x87x84_S1x16x43x42_2_0_44_0, k0_pay27 (View.ld x1 (Rect.unit ![0, 0, 42] ![16, 43, 42] inb_S16x84x84_S16x43x42_0_0_42))⟩,
      ⟨Rect.unit ![2, 0, 0, 42] ![1, 16, 44, 42] inb_S4x16x87x84_S1x16x44x42_2_0_0_42, k0_pay26 (View.ld x1 (Rect.unit ![0, 40, 0] ![16, 44, 42] inb_S16x84x84_S16x44x42_0_40_0))⟩,
      ⟨Rect.unit ![2, 0, 0, 0] ![1, 16, 44, 42] inb_S4x16x87x84_S1x16x44x42_2_0_0_0, k0_pay25 (View.ld x1 (Rect.unit ![0, 40, 42] ![16, 44, 42] inb_S16x84x84_S16x44x42_0_40_42))⟩,
      ⟨Rect.unit ![1, 0, 44, 43] ![1, 16, 43, 41] inb_S4x16x87x84_S1x16x43x41_1_0_44_43, k0_pay24 (View.ld x1 (Rect.unit ![0, 0, 0] ![16, 43, 41] inb_S16x84x84_S16x43x41_0_0_0))⟩,
      ⟨Rect.unit ![1, 0, 44, 0] ![1, 16, 43, 43] inb_S4x16x87x84_S1x16x43x43_1_0_44_0, k0_pay23 (View.ld x1 (Rect.unit ![0, 0, 41] ![16, 43, 43] inb_S16x84x84_S16x43x43_0_0_41))⟩,
      ⟨Rect.unit ![1, 0, 0, 43] ![1, 16, 44, 41] inb_S4x16x87x84_S1x16x44x41_1_0_0_43, k0_pay22 (View.ld x1 (Rect.unit ![0, 40, 0] ![16, 44, 41] inb_S16x84x84_S16x44x41_0_40_0))⟩,
      ⟨Rect.unit ![1, 0, 0, 0] ![1, 16, 44, 43] inb_S4x16x87x84_S1x16x44x43_1_0_0_0, k0_pay21 (View.ld x1 (Rect.unit ![0, 40, 41] ![16, 44, 43] inb_S16x84x84_S16x44x43_0_40_41))⟩,
      ⟨Rect.unit ![0, 0, 44, 44] ![1, 16, 43, 40] inb_S4x16x87x84_S1x16x43x40_0_0_44_44, k0_pay20 (View.ld x1 (Rect.unit ![0, 0, 0] ![16, 43, 40] inb_S16x84x84_S16x43x40_0_0_0))⟩,
      ⟨Rect.unit ![0, 0, 44, 0] ![1, 16, 43, 44] inb_S4x16x87x84_S1x16x43x44_0_0_44_0, k0_pay19 (View.ld x1 (Rect.unit ![0, 0, 40] ![16, 43, 44] inb_S16x84x84_S16x43x44_0_0_40))⟩,
      ⟨Rect.unit ![0, 0, 0, 44] ![1, 16, 44, 40] inb_S4x16x87x84_S1x16x44x40_0_0_0_44, k0_pay18 (View.ld x1 (Rect.unit ![0, 40, 0] ![16, 44, 40] inb_S16x84x84_S16x44x40_0_40_0))⟩,
      ⟨Rect.unit ![0, 0, 0, 0] ![1, 16, 44, 44] inb_S4x16x87x84_S1x16x44x44_0_0_0_0, k0_pay17 (View.ld x1 (Rect.unit ![0, 40, 40] ![16, 44, 44] inb_S16x84x84_S16x44x44_0_40_40))⟩]

/-- What the sixteen stores leave in the scratch array. -/
theorem canon_colPieces (x1 : Vec F S16x84x84 .f32) : View.canon (colPieces x1) = colArr x1 := by
  funext y
  refine View.canon_apply_of_pieces (colArr x1) _ (View.PiecesOf.mem ?_) y ?_
  · refine ⟨?_, ?_, ?_, ?_, ?_, ?_, ?_, ?_, ?_, ?_, ?_, ?_, ?_, ?_, ?_, ?_, trivial⟩ <;>
      exact fun z => corner_eq x1 (by decide) (by decide) (by decide) (by omega) (by omega) z
  · have h0 : (y 0).val < 4 := (y 0).isLt
    have h1 : (y 1).val < 16 := (y 1).isLt
    have h2 : (y 2).val < 87 := (y 2).isLt
    have h3 : (y 3).val < 84 := (y 3).isLt
    have mem : ∀ {A B j r' q' : Nat}
        (h' : ∀ a, (![j, 0, r', q'] : Fin 4 → Nat) a + (![1, 16, A, B] : Fin 4 → Nat) a ≤ S4x16x87x84.size a),
        (y 0).val = j ∧ (r' ≤ (y 2).val ∧ (y 2).val < r' + A) ∧ q' ≤ (y 3).val ∧ (y 3).val < q' + B →
        y ∈ (Rect.unit (s := S4x16x87x84) ![j, 0, r', q'] ![1, 16, A, B] h').set := by
      intro A B j r' q' h' hy
      refine Rect.mem_set_unit.mpr fun a => ?_
      match a with
      | ⟨0, _⟩ => show j ≤ (y 0).val ∧ (y 0).val < j + 1; omega
      | ⟨1, _⟩ => show 0 ≤ (y 1).val ∧ (y 1).val < 0 + 16; omega
      | ⟨2, _⟩ => exact hy.2.1
      | ⟨3, _⟩ => exact hy.2.2
    have hj : (y 0).val = 0 ∨ (y 0).val = 1 ∨ (y 0).val = 2 ∨ (y 0).val = 3 := by omega
    have hr : (y 2).val < 44 ∨ 44 ≤ (y 2).val := by omega
    have hq : (y 3).val < 44 - (y 0).val ∨ 44 - (y 0).val ≤ (y 3).val := by omega
    simp only [colPieces, List.exists_mem_cons_iff]
    rcases hj with hj | hj | hj | hj <;> rcases hr with hr | hr <;> rcases hq with hq | hq <;> rw [hj] at hq <;>
      repeat first | exact Or.inl (mem _ (by omega)) | refine Or.inr ?_

/-- A load of the scratch array reads the shifted copies. -/
theorem read_colPieces {sig : RefSig} {κ : Kind} {sp : Space} (v : View sig κ sp S4x16x87x84 .f32) (x1 : Vec F S16x84x84 .f32)
    (B : LoadRect S4x16x87x84) : v.readCov (colPieces x1) B = fun z => colArr x1 (B.idx z) := by
  rw [View.readCov_eq_canon', canon_colPieces]

end Cert.Body
-- ==== Proof.Acc.lean ====
/- One grid point's update of the accumulator: seventeen stores, each of one plane of the accumulator, together add to plane
   `k` at row `r` and column `q` the sum over the block's sixteen channels of the embedding there times the momentum block at
   the row and column that plane `k` reads. -/
module

public import proofs.«01_k».proof.Proof.Col
public import Idealize.ShloMosaic.Lib.Pointwise.TacticCore
public import Idealize.ShloMosaic.Lib.ValueIdx

@[expose] public section

noncomputable section

namespace Cert.Body

open Cert.KernelIdeal Cert.KernelIdeal.Gen Idealize.ShloMosaic Idealize.ShloMosaic.TcCoe Idealize.SL.Sem

/-- The row that plane `k` of the accumulator reads of the momentum at row `r`. -/
def srow (k r : Nat) : Nat := if k = 0 then r % 84 else (r + 40 + (k - 1) / 4) % 84

/-- The column that plane `k` of the accumulator reads of the momentum at column `q`. -/
def scol (k q : Nat) : Nat := if k = 0 then q % 84 else (q + 40 + (k - 1) % 4) % 84

theorem srow_lt (k r : Nat) : srow k r < 84 := by unfold srow; split <;> exact Nat.mod_lt _ (by decide)
theorem scol_lt (k r : Nat) : scol k r < 84 := by unfold scol; split <;> exact Nat.mod_lt _ (by decide)

/-- The accumulator after one grid point's update, of the embedding block, the momentum block and the accumulator before. -/
def stepArr (x0 x1 : Vec Ideal S16x84x84 .f32) (xs : Vec Ideal S17x84x84 .f32) : Vec Ideal S17x84x84 .f32 := fun y =>
  (xs y : EReal) + ∑ ch : Fin 16, (x0 (ix3 ch ⟨(y 1).val, (y 1).isLt⟩ ⟨(y 2).val, (y 2).isLt⟩) : EReal)
    * (x1 (ix3 ch ⟨srow (y 0).val (y 1).val, srow_lt _ _⟩ ⟨scol (y 0).val (y 2).val, scol_lt _ _⟩) : EReal)

/-- One plane's store: the plane as it was plus the channel sum of the embedding block times another block. -/
def accPay (m : Vec Ideal S16x84x84 .f32) (acc : Vec Ideal S1x84x84 .f32) (e : Vec Ideal S16x84x84 .f32) : Vec Ideal S1x84x84 .f32 :=
  shapeCast S1x84x84 (addf (F := Ideal) (φ := .f32) (shapeCast S84x84 acc shapeCasts_S1x84x84_S84x84)
    (multiReduction .add [0] S84x84 (mulf e m) 0x00000000#32 reduces_S16x84x84_S84x84 (.inl rfl) rfl)) shapeCasts_S84x84_S1x84x84

/-- One plane's store, at an index. -/
theorem accPay_apply (m : Vec Ideal S16x84x84 .f32) (acc : Vec Ideal S1x84x84 .f32) (e : Vec Ideal S16x84x84 .f32) (z : S1x84x84.Idx) :
    accPay m acc e z = (acc z : EReal) + ∑ ch : Fin 16, (e (ix3 ch ⟨(z 1).val, (z 1).isLt⟩ ⟨(z 2).val, (z 2).isLt⟩) : EReal)
      * (m (ix3 ch ⟨(z 1).val, (z 1).isLt⟩ ⟨(z 2).val, (z 2).isLt⟩) : EReal) := by
  have z0 : (z 0).val < 1 := (z 0).isLt
  unfold accPay
  rw [shapeCast_addUnit_apply (n := 2) ![84, 84]]
  have hs : (shapeCast S84x84 acc shapeCasts_S1x84x84_S84x84 (fun a => z a.succ) : EReal) = acc z := by
    refine (shapeCast_dropUnit_apply (n := 2) ![84, 84] acc _ _).trans (congrArg acc (funext fun a => Fin.ext ?_))
    match a with
    | ⟨0, _⟩ => show 0 = (z 0).val; omega
    | ⟨1, _⟩ => rfl
    | ⟨2, _⟩ => rfl
  show (shapeCast S84x84 acc shapeCasts_S1x84x84_S84x84 (fun a => z a.succ) : EReal)
    + multiReduction (F := Ideal) (φ := .f32) .add [0] S84x84 (mulf e m) 0x00000000#32 reduces_S16x84x84_S84x84 (.inl rfl) rfl (fun a => z a.succ) = _
  rw [hs]
  exact congrArg ((acc z : EReal) + ·) (Ideal.reduceAdd_r3_a0 reduces_S16x84x84_S84x84 (mulf (F := Ideal) (φ := .f32) e m) (fun a => z a.succ))

/-- What is read of the shifted copies' scratch array for plane `1 + 4 a + j`, as a block. -/
def colPlane (x1 : Vec Ideal S16x84x84 .f32) (j a : Nat)
    (h : ∀ i, (![j, 0, a, 0] : Fin 4 → Nat) i + (![1, 16, 84, 84] : Fin 4 → Nat) i ≤ S4x16x87x84.size i) : Vec Ideal S16x84x84 .f32 :=
  shapeCast S16x84x84 (fun z => colArr x1 ((Rect.unit (s := S4x16x87x84) ![j, 0, a, 0] ![1, 16, 84, 84] h).toLoadRect.idx z))
    shapeCasts_S1x16x84x84_S16x84x84

/-- That block is the momentum block at the rows and columns the plane reads. -/
theorem colPlane_apply (x1 : Vec Ideal S16x84x84 .f32) {k j a : Nat} (hk : k = 1 + 4 * a + j) (hj : j < 4)
    (h : ∀ i, (![j, 0, a, 0] : Fin 4 → Nat) i + (![1, 16, 84, 84] : Fin 4 → Nat) i ≤ S4x16x87x84.size i)
    (ch : Fin 16) (r q : Fin 84) :
    colPlane x1 j a h (ix3 ch r q) = x1 (ix3 ch ⟨srow k r.val, srow_lt _ _⟩ ⟨scol k q.val, scol_lt _ _⟩) := by
  subst hk
  have h1 : srow (1 + 4 * a + j) r.val = (a + 1 * r.val + 40) % 84 := by unfold srow; rw [if_neg (by omega)]; omega
  have h2 : scol (1 + 4 * a + j) q.val = (0 + 1 * q.val + 40 + (j + 1 * 0)) % 84 := by unfold scol; rw [if_neg (by omega)]; omega
  refine (shapeCast_dropUnit_apply (n := 3) ![16, 84, 84] _ _ _).trans ?_
  show x1 _ = x1 _
  congr 1
  funext i
  refine Fin.ext ?_
  match i with
  | ⟨0, _⟩ => show 0 + 1 * ch.val = ch.val; omega
  | ⟨1, _⟩ => exact h1.symm
  | ⟨2, _⟩ => exact h2.symm

/-- The store of plane `1 + 4 a + j` is that plane of the updated accumulator. -/
theorem plane_eq (x0 x1 : Vec Ideal S16x84x84 .f32) (xs : Vec Ideal S17x84x84 .f32) {k j a : Nat} (hk : k = 1 + 4 * a + j) (hj : j < 4)
    (h : ∀ i, (![j, 0, a, 0] : Fin 4 → Nat) i + (![1, 16, 84, 84] : Fin 4 → Nat) i ≤ S4x16x87x84.size i)
    (h' : ∀ i, (![k, 0, 0] : Fin 3 → Nat) i + (![1, 84, 84] : Fin 3 → Nat) i ≤ S17x84x84.size i)
    (z : (⟨3, ![1, 84, 84]⟩ : Shape).Idx) :
    accPay (colPlane x1 j a h) (View.ld xs (Rect.unit ![k, 0, 0] ![1, 84, 84] h'))
        (View.ld x0 (Rect.unit ![0, 0, 0] ![16, 84, 84] inb_S16x84x84_S16x84x84_0_0_0)) z
      = stepArr x0 x1 xs ((Rect.unit (s := S17x84x84) ![k, 0, 0] ![1, 84, 84] h').emb z) := by
  have z0 : (z 0).val < 1 := (z 0).isLt
  have e0 : ((Rect.unit (s := S17x84x84) ![k, 0, 0] ![1, 84, 84] h').emb z 0).val = k := by
    show k + 1 * (z 0).val = k; omega
  have e1 : ((Rect.unit (s := S17x84x84) ![k, 0, 0] ![1, 84, 84] h').emb z 1).val = (z 1).val := by
    show 0 + 1 * (z 1).val = (z 1).val; omega
  have e2 : ((Rect.unit (s := S17x84x84) ![k, 0, 0] ![1, 84, 84] h').emb z 2).val = (z 2).val := by
    show 0 + 1 * (z 2).val = (z 2).val; omega
  rw [accPay_apply]
  unfold stepArr
  simp only [e0, e1, e2]
  refine congrArg₂ (fun u v : EReal => u + v) rfl (Finset.sum_congr rfl fun ch _ => ?_)
  rw [colPlane_apply x1 hk hj, View.ld_unit_zero (by funext i; fin_cases i <;> rfl)]

/-- The store of plane 0 is that plane of the updated accumulator. -/
theorem plane0_eq (x0 x1 : Vec Ideal S16x84x84 .f32) (xs : Vec Ideal S17x84x84 .f32)
    (h' : ∀ i, (![0, 0, 0] : Fin 3 → Nat) i + (![1, 84, 84] : Fin 3 → Nat) i ≤ S17x84x84.size i)
    (z : (⟨3, ![1, 84, 84]⟩ : Shape).Idx) :
    accPay (View.ld x1 (Rect.unit ![0, 0, 0] ![16, 84, 84] inb_S16x84x84_S16x84x84_0_0_0)) (View.ld xs (Rect.unit ![0, 0, 0] ![1, 84, 84] h'))
        (View.ld x0 (Rect.unit ![0, 0, 0] ![16, 84, 84] inb_S16x84x84_S16x84x84_0_0_0)) z
      = stepArr x0 x1 xs ((Rect.unit (s := S17x84x84) ![0, 0, 0] ![1, 84, 84] h').emb z) := by
  have z0 : (z 0).val < 1 := (z 0).isLt
  have e0 : ((Rect.unit (s := S17x84x84) ![0, 0, 0] ![1, 84, 84] h').emb z 0).val = 0 := by
    show 0 + 1 * (z 0).val = 0; omega
  have e1 : ((Rect.unit (s := S17x84x84) ![0, 0, 0] ![1, 84, 84] h').emb z 1).val = (z 1).val := by
    show 0 + 1 * (z 1).val = (z 1).val; omega
  have e2 : ((Rect.unit (s := S17x84x84) ![0, 0, 0] ![1, 84, 84] h').emb z 2).val = (z 2).val := by
    show 0 + 1 * (z 2).val = (z 2).val; omega
  have hr : ∀ r : Fin 84, (⟨srow 0 r.val, srow_lt _ _⟩ : Fin 84) = r := fun r => Fin.ext (Nat.mod_eq_of_lt r.isLt)
  have hq : ∀ r : Fin 84, (⟨scol 0 r.val, scol_lt _ _⟩ : Fin 84) = r := fun r => Fin.ext (Nat.mod_eq_of_lt r.isLt)
  rw [accPay_apply]
  unfold stepArr
  simp only [e0, e1, e2]
  refine congrArg₂ (fun u v : EReal => u + v) rfl (Finset.sum_congr rfl fun ch _ => ?_)
  rw [View.ld_unit_zero (by funext i; fin_cases i <;> rfl), View.ld_unit_zero (by funext i; fin_cases i <;> rfl)]
  exact congrArg (fun i => (x0 _ : EReal) * (x1 i : EReal)) (congrArg₂ (ix3 ch) (hr ⟨(z 1).val, (z 1).isLt⟩).symm (hq ⟨(z 2).val, (z 2).isLt⟩).symm)

/-- The seventeen stores, last first. -/
abbrev accPieces (x0 x1 : Vec Ideal S16x84x84 .f32) (xs : Vec Ideal S17x84x84 .f32) : List (View.Piece (Elt Ideal) S17x84x84 .f32) :=
    [⟨Rect.unit ![16, 0, 0] ![1, 84, 84] inb_S17x84x84_S1x84x84_16_0_0,
        k0_pay2 (fun z => colArr x1 ((Rect.unit (s := S4x16x87x84) ![3, 0, 3, 0] ![1, 16, 84, 84] inb_S4x16x87x84_S1x16x84x84_3_0_3_0).toLoadRect.idx z)) (View.ld xs (Rect.unit ![16, 0, 0] ![1, 84, 84] inb_S17x84x84_S1x84x84_16_0_0)) (View.ld x0 (Rect.unit ![0, 0, 0] ![16, 84, 84] inb_S16x84x84_S16x84x84_0_0_0))⟩,
      ⟨Rect.unit ![15, 0, 0] ![1, 84, 84] inb_S17x84x84_S1x84x84_15_0_0,
        k0_pay1 (k0_pay54 (fun z => colArr x1 ((Rect.unit (s := S4x16x87x84) ![2, 0, 3, 0] ![1, 16, 84, 84] inb_S4x16x87x84_S1x16x84x84_2_0_3_0).toLoadRect.idx z))) (k0_pay55 (View.ld xs (Rect.unit ![15, 0, 0] ![1, 84, 84] inb_S17x84x84_S1x84x84_15_0_0))) (View.ld x0 (Rect.unit ![0, 0, 0] ![16, 84, 84] inb_S16x84x84_S16x84x84_0_0_0))⟩,
      ⟨Rect.unit ![14, 0, 0] ![1, 84, 84] inb_S17x84x84_S1x84x84_14_0_0,
        k0_pay53 (fun z => colArr x1 ((Rect.unit (s := S4x16x87x84) ![1, 0, 3, 0] ![1, 16, 84, 84] inb_S4x16x87x84_S1x16x84x84_1_0_3_0).toLoadRect.idx z)) (View.ld xs (Rect.unit ![14, 0, 0] ![1, 84, 84] inb_S17x84x84_S1x84x84_14_0_0)) (View.ld x0 (Rect.unit ![0, 0, 0] ![16, 84, 84] inb_S16x84x84_S16x84x84_0_0_0))⟩,
      ⟨Rect.unit ![13, 0, 0] ![1, 84, 84] inb_S17x84x84_S1x84x84_13_0_0,
        k0_pay52 (fun z => colArr x1 ((Rect.unit (s := S4x16x87x84) ![0, 0, 3, 0] ![1, 16, 84, 84] inb_S4x16x87x84_S1x16x84x84_0_0_3_0).toLoadRect.idx z)) (View.ld xs (Rect.unit ![13, 0, 0] ![1, 84, 84] inb_S17x84x84_S1x84x84_13_0_0)) (View.ld x0 (Rect.unit ![0, 0, 0] ![16, 84, 84] inb_S16x84x84_S16x84x84_0_0_0))⟩,
      ⟨Rect.unit ![12, 0, 0] ![1, 84, 84] inb_S17x84x84_S1x84x84_12_0_0,
        k0_pay51 (fun z => colArr x1 ((Rect.unit (s := S4x16x87x84) ![3, 0, 2, 0] ![1, 16, 84, 84] inb_S4x16x87x84_S1x16x84x84_3_0_2_0).toLoadRect.idx z)) (View.ld xs (Rect.unit ![12, 0, 0] ![1, 84, 84] inb_S17x84x84_S1x84x84_12_0_0)) (View.ld x0 (Rect.unit ![0, 0, 0] ![16, 84, 84] inb_S16x84x84_S16x84x84_0_0_0))⟩,
      ⟨Rect.unit ![11, 0, 0] ![1, 84, 84] inb_S17x84x84_S1x84x84_11_0_0,
        k0_pay50 (fun z => colArr x1 ((Rect.unit (s := S4x16x87x84) ![2, 0, 2, 0] ![1, 16, 84, 84] inb_S4x16x87x84_S1x16x84x84_2_0_2_0).toLoadRect.idx z)) (View.ld xs (Rect.unit ![11, 0, 0] ![1, 84, 84] inb_S17x84x84_S1x84x84_11_0_0)) (View.ld x0 (Rect.unit ![0, 0, 0] ![16, 84, 84] inb_S16x84x84_S16x84x84_0_0_0))⟩,
      ⟨Rect.unit ![10, 0, 0] ![1, 84, 84] inb_S17x84x84_S1x84x84_10_0_0,
        k0_pay49 (k0_pay48 (fun z => colArr x1 ((Rect.unit (s := S4x16x87x84) ![1, 0, 2, 0] ![1, 16, 84, 84] inb_S4x16x87x84_S1x16x84x84_1_0_2_0).toLoadRect.idx z)) (View.ld xs (Rect.unit ![10, 0, 0] ![1, 84, 84] inb_S17x84x84_S1x84x84_10_0_0)) (View.ld x0 (Rect.unit ![0, 0, 0] ![16, 84, 84] inb_S16x84x84_S16x84x84_0_0_0)))⟩,
      ⟨Rect.unit ![9, 0, 0] ![1, 84, 84] inb_S17x84x84_S1x84x84_9_0_0,
        k0_pay47 (fun z => colArr x1 ((Rect.unit (s := S4x16x87x84) ![0, 0, 2, 0] ![1, 16, 84, 84] inb_S4x16x87x84_S1x16x84x84_0_0_2_0).toLoadRect.idx z)) (View.ld xs (Rect.unit ![9, 0, 0] ![1, 84, 84] inb_S17x84x84_S1x84x84_9_0_0)) (View.ld x0 (Rect.unit ![0, 0, 0] ![16, 84, 84] inb_S16x84x84_S16x84x84_0_0_0))⟩,
      ⟨Rect.unit ![8, 0, 0] ![1, 84, 84] inb_S17x84x84_S1x84x84_8_0_0,
        k0_pay46 (k0_pay44 (fun z => colArr x1 ((Rect.unit (s := S4x16x87x84) ![3, 0, 1, 0] ![1, 16, 84, 84] inb_S4x16x87x84_S1x16x84x84_3_0_1_0).toLoadRect.idx z))) (k0_pay45 (View.ld xs (Rect.unit ![8, 0, 0] ![1, 84, 84] inb_S17x84x84_S1x84x84_8_0_0))) (View.ld x0 (Rect.unit ![0, 0, 0] ![16, 84, 84] inb_S16x84x84_S16x84x84_0_0_0))⟩,
      ⟨Rect.unit ![7, 0, 0] ![1, 84, 84] inb_S17x84x84_S1x84x84_7_0_0,
        k0_pay43 (fun z => colArr x1 ((Rect.unit (s := S4x16x87x84) ![2, 0, 1, 0] ![1, 16, 84, 84] inb_S4x16x87x84_S1x16x84x84_2_0_1_0).toLoadRect.idx z)) (View.ld xs (Rect.unit ![7, 0, 0] ![1, 84, 84] inb_S17x84x84_S1x84x84_7_0_0)) (View.ld x0 (Rect.unit ![0, 0, 0] ![16, 84, 84] inb_S16x84x84_S16x84x84_0_0_0))⟩,
      ⟨Rect.unit ![6, 0, 0] ![1, 84, 84] inb_S17x84x84_S1x84x84_6_0_0,
        k0_pay42 (k0_pay41 (fun z => colArr x1 ((Rect.unit (s := S4x16x87x84) ![1, 0, 1, 0] ![1, 16, 84, 84] inb_S4x16x87x84_S1x16x84x84_1_0_1_0).toLoadRect.idx z))) (View.ld xs (Rect.unit ![6, 0, 0] ![1, 84, 84] inb_S17x84x84_S1x84x84_6_0_0)) (View.ld x0 (Rect.unit ![0, 0, 0] ![16, 84, 84] inb_S16x84x84_S16x84x84_0_0_0))⟩,
      ⟨Rect.unit ![5, 0, 0] ![1, 84, 84] inb_S17x84x84_S1x84x84_5_0_0,
        k0_pay40 (fun z => colArr x1 ((Rect.unit (s := S4x16x87x84) ![0, 0, 1, 0] ![1, 16, 84, 84] inb_S4x16x87x84_S1x16x84x84_0_0_1_0).toLoadRect.idx z)) (View.ld xs (Rect.unit ![5, 0, 0] ![1, 84, 84] inb_S17x84x84_S1x84x84_5_0_0)) (View.ld x0 (Rect.unit ![0, 0, 0] ![16, 84, 84] inb_S16x84x84_S16x84x84_0_0_0))⟩,
      ⟨Rect.unit ![4, 0, 0] ![1, 84, 84] inb_S17x84x84_S1x84x84_4_0_0,
        k0_pay39 (fun z => colArr x1 ((Rect.unit (s := S4x16x87x84) ![3, 0, 0, 0] ![1, 16, 84, 84] inb_S4x16x87x84_S1x16x84x84_3_0_0_0).toLoadRect.idx z)) (View.ld xs (Rect.unit ![4, 0, 0] ![1, 84, 84] inb_S17x84x84_S1x84x84_4_0_0)) (View.ld x0 (Rect.unit ![0, 0, 0] ![16, 84, 84] inb_S16x84x84_S16x84x84_0_0_0))⟩,
      ⟨Rect.unit ![3, 0, 0] ![1, 84, 84] inb_S17x84x84_S1x84x84_3_0_0,
        k0_pay38 (fun z => colArr x1 ((Rect.unit (s := S4x16x87x84) ![2, 0, 0, 0] ![1, 16, 84, 84] inb_S4x16x87x84_S1x16x84x84_2_0_0_0).toLoadRect.idx z)) (View.ld xs (Rect.unit ![3, 0, 0] ![1, 84, 84] inb_S17x84x84_S1x84x84_3_0_0)) (View.ld x0 (Rect.unit ![0, 0, 0] ![16, 84, 84] inb_S16x84x84_S16x84x84_0_0_0))⟩,
      ⟨Rect.unit ![2, 0, 0] ![1, 84, 84] inb_S17x84x84_S1x84x84_2_0_0,
        k0_pay37 (fun z => colArr x1 ((Rect.unit (s := S4x16x87x84) ![1, 0, 0, 0] ![1, 16, 84, 84] inb_S4x16x87x84_S1x16x84x84_1_0_0_0).toLoadRect.idx z)) (View.ld xs (Rect.unit ![2, 0, 0] ![1, 84, 84] inb_S17x84x84_S1x84x84_2_0_0)) (View.ld x0 (Rect.unit ![0, 0, 0] ![16, 84, 84] inb_S16x84x84_S16x84x84_0_0_0))⟩,
      ⟨Rect.unit ![1, 0, 0] ![1, 84, 84] inb_S17x84x84_S1x84x84_1_0_0,
        k0_pay36 (k0_pay34 (View.ld xs (Rect.unit ![1, 0, 0] ![1, 84, 84] inb_S17x84x84_S1x84x84_1_0_0))) (k0_pay35 (fun z => colArr x1 ((Rect.unit (s := S4x16x87x84) ![0, 0, 0, 0] ![1, 16, 84, 84] inb_S4x16x87x84_S1x16x84x84_0_0_0_0).toLoadRect.idx z)) (View.ld x0 (Rect.unit ![0, 0, 0] ![16, 84, 84] inb_S16x84x84_S16x84x84_0_0_0)))⟩,
      ⟨Rect.unit ![0, 0, 0] ![1, 84, 84] inb_S17x84x84_S1x84x84_0_0_0,
        k0_pay33 (View.ld xs (Rect.unit ![0, 0, 0] ![1, 84, 84] inb_S17x84x84_S1x84x84_0_0_0)) (View.ld x0 (Rect.unit ![0, 0, 0] ![16, 84, 84] inb_S16x84x84_S16x84x84_0_0_0)) (View.ld x1 (Rect.unit ![0, 0, 0] ![16, 84, 84] inb_S16x84x84_S16x84x84_0_0_0))⟩]

/-- Every one of them is a plane of the updated accumulator. -/
theorem accPieces_of (x0 x1 : Vec Ideal S16x84x84 .f32) (xs : Vec Ideal S17x84x84 .f32) :
    View.PiecesOf (stepArr x0 x1 xs) (accPieces x0 x1 xs) := by
  refine ⟨?_, ?_, ?_, ?_, ?_, ?_, ?_, ?_, ?_, ?_, ?_, ?_, ?_, ?_, ?_, ?_, ?_, trivial⟩
  on_goal 17 => exact fun z => plane0_eq x0 x1 xs _ z
  all_goals exact fun z => plane_eq x0 x1 xs (by decide) (by decide) (by decide) (by decide) z

/-- Together they fill the accumulator. -/
theorem accPieces_cover (x0 x1 : Vec Ideal S16x84x84 .f32) (xs : Vec Ideal S17x84x84 .f32) (y : S17x84x84.Idx) :
    ∃ p ∈ accPieces x0 x1 xs, y ∈ p.1.set := by
  have h0 : (y 0).val < 17 := (y 0).isLt
  have h1 : (y 1).val < 84 := (y 1).isLt
  have h2 : (y 2).val < 84 := (y 2).isLt
  have mem : ∀ {k : Nat} (h' : ∀ i, (![k, 0, 0] : Fin 3 → Nat) i + (![1, 84, 84] : Fin 3 → Nat) i ≤ S17x84x84.size i),
      (y 0).val = k → y ∈ (Rect.unit (s := S17x84x84) ![k, 0, 0] ![1, 84, 84] h').set := by
    intro k h' hk
    refine Rect.mem_set_unit.mpr fun i => ?_
    match i with
    | ⟨0, _⟩ => show k ≤ (y 0).val ∧ (y 0).val < k + 1; omega
    | ⟨1, _⟩ => show 0 ≤ (y 1).val ∧ (y 1).val < 0 + 84; omega
    | ⟨2, _⟩ => show 0 ≤ (y 2).val ∧ (y 2).val < 0 + 84; omega
  obtain ⟨k, hk⟩ : ∃ k, (y 0).val = k := ⟨_, rfl⟩
  rw [hk] at h0
  simp only [accPieces, List.exists_mem_cons_iff]
  interval_cases k <;> repeat first | exact Or.inl (mem _ hk) | refine Or.inr ?_

/-- The accumulator after the seventeen stores, whatever was stored before them. -/
theorem canon_accPieces (x0 x1 : Vec Ideal S16x84x84 .f32) (xs : Vec Ideal S17x84x84 .f32)
    (L : List (View.Piece (Elt Ideal) S17x84x84 .f32)) : View.canon (accPieces x0 x1 xs ++ L) = stepArr x0 x1 xs :=
  funext fun y => View.canon_append_of_piecesOf _ L _ (accPieces_of x0 x1 xs) y (accPieces_cover x0 x1 xs y)

end Cert.Body
-- ==== Proof.Out.lean ====
/- What each grid point's body leaves: the accumulator updated once from what the point before left (from zero at the first
   point), and at the last point the result computed from the accumulator so updated. -/
module

public import proofs.«01_k».proof.Proof.Acc
public import Idealize.ShloMosaic.Lib.Tactic

@[expose] public section

noncomputable section

namespace Cert.Body

open Cert.KernelIdeal Cert.KernelIdeal.Gen Idealize.ShloMosaic Idealize.ShloMosaic.TcCoe Idealize.SL.Sem

/-- A load of one plane skips a store of another plane. -/
theorem skip_plane {sig : RefSig} {κ : Kind} {sp : Space} (v : View sig κ sp S17x84x84 .f32) {k k' : Nat} (hne : k ≠ k')
    (h : ∀ i, (![k, 0, 0] : Fin 3 → Nat) i + (![1, 84, 84] : Fin 3 → Nat) i ≤ S17x84x84.size i)
    (h' : ∀ i, (![k', 0, 0] : Fin 3 → Nat) i + (![1, 84, 84] : Fin 3 → Nat) i ≤ S17x84x84.size i)
    (w : (Rect.unit (s := S17x84x84) ![k, 0, 0] ![1, 84, 84] h).shape.Idx → Elt Ideal .f32)
    (L : List (View.Piece (Elt Ideal) S17x84x84 .f32)) :
    v.readCov (⟨Rect.unit ![k, 0, 0] ![1, 84, 84] h, w⟩ :: L) (Rect.unit ![k', 0, 0] ![1, 84, 84] h').toLoadRect
      = v.readCov L (Rect.unit ![k', 0, 0] ![1, 84, 84] h').toLoadRect :=
  View.readCov_cons_of_disjoint v _ L _ (Rect.unit_disjoint (inb := h) (inb' := h') 0 (by
    show k + 1 ≤ k' ∨ k' + 1 ≤ k
    omega))

/-- A load of the accumulator after the fill reads the fill. -/
theorem read_fill {sig : RefSig} {κ : Kind} {sp : Space} (v : View sig κ sp S17x84x84 .f32)
    (h : ∀ i, (![0, 0, 0] : Fin 3 → Nat) i + (![17, 84, 84] : Fin 3 → Nat) i ≤ S17x84x84.size i) (Z : Vec Ideal S17x84x84 .f32)
    (r : Rect S17x84x84) : v.readCov [(⟨Rect.unit ![0, 0, 0] ![17, 84, 84] h, Z⟩ : View.Piece (Elt Ideal) S17x84x84 .f32)] r.toLoadRect = View.ld Z r :=
  View.readCov_fill v h Z [] r (by intro i; fin_cases i <;> rfl)

/-- A load of the accumulator after the seventeen stores reads the updated accumulator. -/
theorem read_accPieces {sig : RefSig} {κ : Kind} {sp : Space} (v : View sig κ sp S17x84x84 .f32) (x0 x1 : Vec Ideal S16x84x84 .f32)
    (xs : Vec Ideal S17x84x84 .f32) (B : LoadRect S17x84x84) :
    v.readCov (accPieces x0 x1 xs) B = fun z => stepArr x0 x1 xs (B.idx z) := by
  rw [View.readCov_eq_canon', show accPieces x0 x1 xs = accPieces x0 x1 xs ++ [] from (List.append_nil _).symm, canon_accPieces]

/-- A middle point leaves the accumulator updated. -/
theorem sout_B (c : Dev nD) (i : grid0.Coords) (arg1 : Memref sig .tc .vmem S16x84x84 .f32) (harg1 : arg1.IsWhole) (arg2 : Memref sig .tc .vmem S16x84x84 .f32) (harg2 : arg2.IsWhole) (arg3 : Memref sig .tc .vmem S16x84x84 .i8) (harg3 : arg3.IsWhole) (arg4 : Memref sig .tc .vmem S84x84 .f32) (harg4 : arg4.IsWhole) (arg5 : Memref sig .tc .vmem S1x1 .f32) (harg5 : arg5.IsWhole) (arg6 : Memref sig .tc .vmem S4x16x87x84 .f32) (harg6 : arg6.IsWhole) (arg7 : Memref sig .tc .vmem S17x84x84 .f32) (harg7 : arg7.IsWhole) (hc0 : ¬cond0_0 i) (hc1 : ¬cond0_1 i)
    (x0 : Vec Ideal S16x84x84 .f32) (x1 : Vec Ideal S16x84x84 .f32) (x2 : Vec Ideal S16x84x84 .i8) (x3 : Vec Ideal S84x84 .f32) (xs1 : Vec Ideal S17x84x84 .f32) :
    sout0_B_1 c i arg1 harg1 arg2 harg2 arg3 harg3 arg4 harg4 arg5 harg5 arg6 harg6 arg7 harg7 hc0 hc1 x0 x1 x2 x3 xs1 = stepArr x0 x1 xs1 := by
  unfold sout0_B_1
  rw [View.read_writes_junk_eq_canon]
  unfold kernelRun0_B
  dsimp only
  sl_unfold_words
  simp only [View.readAt_eq_ld, harg1.read_unread, harg2.read_unread, harg7.read_unread, read_colPieces]
  exact (congrArg View.canon (List.append_nil _).symm).trans (canon_accPieces x0 x1 xs1 [])

/-- The first point leaves the zero accumulator updated. -/
theorem sout_A (c : Dev nD) (i : grid0.Coords) (arg1 : Memref sig .tc .vmem S16x84x84 .f32) (harg1 : arg1.IsWhole) (arg2 : Memref sig .tc .vmem S16x84x84 .f32) (harg2 : arg2.IsWhole) (arg3 : Memref sig .tc .vmem S16x84x84 .i8) (harg3 : arg3.IsWhole) (arg4 : Memref sig .tc .vmem S84x84 .f32) (harg4 : arg4.IsWhole) (arg5 : Memref sig .tc .vmem S1x1 .f32) (harg5 : arg5.IsWhole) (arg6 : Memref sig .tc .vmem S4x16x87x84 .f32) (harg6 : arg6.IsWhole) (arg7 : Memref sig .tc .vmem S17x84x84 .f32) (harg7 : arg7.IsWhole) (hc0 : cond0_0 i) (hc1 : ¬cond0_1 i)
    (x0 : Vec Ideal S16x84x84 .f32) (x1 : Vec Ideal S16x84x84 .f32) (x2 : Vec Ideal S16x84x84 .i8) (x3 : Vec Ideal S84x84 .f32) :
    sout0_A_1 c i arg1 harg1 arg2 harg2 arg3 harg3 arg4 harg4 arg5 harg5 arg6 harg6 arg7 harg7 hc0 hc1 x0 x1 x2 x3 = stepArr x0 x1 (k0_pay16 (F := Ideal)) := by
  unfold sout0_A_1
  rw [View.read_writes_junk_eq_canon]
  unfold kernelRun0_A
  dsimp only
  sl_unfold_words
  simp only [View.readAt_eq_ld, harg1.read_unread, harg2.read_unread, harg7.read_unread, read_colPieces]
  simp (disch := decide) only [↓skip_plane, ↓read_fill]
  exact canon_accPieces x0 x1 (k0_pay16 (F := Ideal)) [⟨Rect.unit ![0, 0, 0] ![17, 84, 84] inb_S17x84x84_S17x84x84_0_0_0, k0_pay16 (F := Ideal)⟩]

/-- The result the last point computes, of the way it reads the accumulator's planes, the shift counts and the mask. -/
def finalOf (rd : (k : Nat) →
    (∀ i, (![k, 0, 0] : Fin 3 → Nat) i + (![1, 84, 84] : Fin 3 → Nat) i ≤ S17x84x84.size i) → Vec Ideal S1x84x84 .f32) (x2 : Vec Ideal S16x84x84 .i8) (x3 : Vec Ideal S84x84 .f32) :
    Vec Ideal S1x1 .f32 :=
  k0_pay3 (k0_pay15 (k0_pay4 (rd 0 inb_S17x84x84_S1x84x84_0_0_0)) (k0_pay13 (k0_pay11 (k0_pay9 (k0_pay7 (k0_pay5 (rd 0 inb_S17x84x84_S1x84x84_0_0_0) (View.ld x2 (Rect.unit ![0, 0, 0] ![1, 84, 84] inb_S16x84x84_S1x84x84_0_0_0)) (rd 1 inb_S17x84x84_S1x84x84_1_0_0) (View.ld x2 (Rect.unit ![1, 0, 0] ![1, 84, 84] inb_S16x84x84_S1x84x84_1_0_0)) (rd 2 inb_S17x84x84_S1x84x84_2_0_0)) (k0_pay6 (View.ld x2 (Rect.unit ![2, 0, 0] ![1, 84, 84] inb_S16x84x84_S1x84x84_2_0_0)))
    (rd 3 inb_S17x84x84_S1x84x84_3_0_0) (View.ld x2 (Rect.unit ![3, 0, 0] ![1, 84, 84] inb_S16x84x84_S1x84x84_3_0_0)) (rd 4 inb_S17x84x84_S1x84x84_4_0_0) (View.ld x2 (Rect.unit ![4, 0, 0] ![1, 84, 84] inb_S16x84x84_S1x84x84_4_0_0)) (rd 5 inb_S17x84x84_S1x84x84_5_0_0)) (k0_pay8 (View.ld x2 (Rect.unit ![5, 0, 0] ![1, 84, 84] inb_S16x84x84_S1x84x84_5_0_0)))
    (rd 6 inb_S17x84x84_S1x84x84_6_0_0) (View.ld x2 (Rect.unit ![6, 0, 0] ![1, 84, 84] inb_S16x84x84_S1x84x84_6_0_0)) (rd 7 inb_S17x84x84_S1x84x84_7_0_0) (View.ld x2 (Rect.unit ![7, 0, 0] ![1, 84, 84] inb_S16x84x84_S1x84x84_7_0_0)) (rd 8 inb_S17x84x84_S1x84x84_8_0_0)) (k0_pay10 (View.ld x2 (Rect.unit ![8, 0, 0] ![1, 84, 84] inb_S16x84x84_S1x84x84_8_0_0)))
    (rd 9 inb_S17x84x84_S1x84x84_9_0_0) (View.ld x2 (Rect.unit ![9, 0, 0] ![1, 84, 84] inb_S16x84x84_S1x84x84_9_0_0)) (rd 10 inb_S17x84x84_S1x84x84_10_0_0) (View.ld x2 (Rect.unit ![10, 0, 0] ![1, 84, 84] inb_S16x84x84_S1x84x84_10_0_0)) (rd 11 inb_S17x84x84_S1x84x84_11_0_0)) (k0_pay12 (View.ld x2 (Rect.unit ![11, 0, 0] ![1, 84, 84] inb_S16x84x84_S1x84x84_11_0_0)))
    (rd 12 inb_S17x84x84_S1x84x84_12_0_0) (View.ld x2 (Rect.unit ![12, 0, 0] ![1, 84, 84] inb_S16x84x84_S1x84x84_12_0_0)) (rd 13 inb_S17x84x84_S1x84x84_13_0_0) (View.ld x2 (Rect.unit ![13, 0, 0] ![1, 84, 84] inb_S16x84x84_S1x84x84_13_0_0)) (rd 14 inb_S17x84x84_S1x84x84_14_0_0))
    (k0_pay14 (View.ld x2 (Rect.unit ![14, 0, 0] ![1, 84, 84] inb_S16x84x84_S1x84x84_14_0_0))) (rd 15 inb_S17x84x84_S1x84x84_15_0_0) (View.ld x2 (Rect.unit ![15, 0, 0] ![1, 84, 84] inb_S16x84x84_S1x84x84_15_0_0)) (rd 16 inb_S17x84x84_S1x84x84_16_0_0)
    (View.ld x3 (Rect.unit ![0, 0] ![84, 84] inb_S84x84_S84x84_0_0))) (FloatOps.ofBits FTy.f32 0x4C3DEC40#32)

/-- The last point leaves the result computed from the accumulator updated. -/
theorem out_C (c : Dev nD) (i : grid0.Coords) (arg1 : Memref sig .tc .vmem S16x84x84 .f32) (harg1 : arg1.IsWhole) (arg2 : Memref sig .tc .vmem S16x84x84 .f32) (harg2 : arg2.IsWhole) (arg3 : Memref sig .tc .vmem S16x84x84 .i8) (harg3 : arg3.IsWhole) (arg4 : Memref sig .tc .vmem S84x84 .f32) (harg4 : arg4.IsWhole) (arg5 : Memref sig .tc .vmem S1x1 .f32) (harg5 : arg5.IsWhole) (arg6 : Memref sig .tc .vmem S4x16x87x84 .f32) (harg6 : arg6.IsWhole) (arg7 : Memref sig .tc .vmem S17x84x84 .f32) (harg7 : arg7.IsWhole) (hc0 : ¬cond0_0 i) (hc1 : cond0_1 i)
    (x0 : Vec Ideal S16x84x84 .f32) (x1 : Vec Ideal S16x84x84 .f32) (x2 : Vec Ideal S16x84x84 .i8) (x3 : Vec Ideal S84x84 .f32) (xs1 : Vec Ideal S17x84x84 .f32) :
    out0_C_4 c i arg1 harg1 arg2 harg2 arg3 harg3 arg4 harg4 arg5 harg5 arg6 harg6 arg7 harg7 hc0 hc1 x0 x1 x2 x3 xs1 = finalOf (fun k h => View.ld (stepArr x0 x1 xs1) (Rect.unit (s := S17x84x84) ![k, 0, 0] ![1, 84, 84] h)) x2 x3 := by
  unfold out0_C_4
  rw [View.read_writes_junk_eq_canon]
  unfold kernelRun0_C
  dsimp only
  sl_unfold_words
  simp only [View.readAt_eq_ld, harg1.read_unread, harg2.read_unread, harg3.read_unread, harg4.read_unread, harg7.read_unread, read_colPieces]
  rw [View.canon_unit_zero (by funext i; fin_cases i <;> rfl)]
  refine Eq.trans (b := finalOf (fun k h => arg7.view.readCov (accPieces x0 x1 xs1) (Rect.unit (s := S17x84x84) ![k, 0, 0] ![1, 84, 84] h).toLoadRect) x2 x3) rfl ?_
  exact congrArg (fun rd => finalOf rd x2 x3) (funext fun k => funext fun h => read_accPieces _ _ _ _ _)

end Cert.Body
-- ==== Proof.Fold.lean ====
/- The accumulator over the grid: after the last point, plane `k` at row `r` and column `q` holds the sum over all channels of
   the embedding there times the momentum at the row and column that plane `k` reads. And the kernel's result is the last
   point's computation of it, of the shift counts and of the mask. -/
module

public import proofs.«01_k».proof.Proof.Out
public import proofs.«01_k».proof.Proof.Gen.KernelIdeal.Value

@[expose] public section

noncomputable section

namespace Cert.Body

open Cert.KernelIdeal Cert.KernelIdeal.Gen Cert.KernelIdeal.Value Idealize.ShloMosaic Idealize.ShloMosaic.TcCoe Idealize.SL.Sem

/-- The accumulator after `T` points: each point adds the channel sum of its sixteen channels. -/
def dots (A B : Vec Ideal S128x84x84 .f32) (T : Nat) : Vec Ideal S17x84x84 .f32 := fun y =>
  ∑ t ∈ Finset.range T, ∑ ch : Fin 16,
    (A (ix3 ⟨(16 * t + ch.val) % 128, Nat.mod_lt _ (by decide)⟩ ⟨(y 1).val, (y 1).isLt⟩ ⟨(y 2).val, (y 2).isLt⟩) : EReal)
    * (B (ix3 ⟨(16 * t + ch.val) % 128, Nat.mod_lt _ (by decide)⟩ ⟨srow (y 0).val (y 1).val, srow_lt _ _⟩ ⟨scol (y 0).val (y 2).val, scol_lt _ _⟩) : EReal)

variable (m : (ℓ : Loc nD τ sig) → Buf (Elt Ideal) ℓ)

/-- The embedding's block at a point: its sixteen channels. -/
theorem iblk0_apply (c : Dev nD) (t : Fin cfg0.N) (j : S16x84x84.Idx) :
    (iblk m c 0 t : Vec Ideal S16x84x84 .f32) j
      = (m ((c : Thread nD τ).loc main_arg0) : Vec Ideal S128x84x84 .f32)
          (ix3 ⟨(16 * t.val + (j 0).val) % 128, Nat.mod_lt _ (by decide)⟩ ⟨(j 1).val, (j 1).isLt⟩ ⟨(j 2).val, (j 2).isLt⟩) := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  have ht : t.val < 8 := lt_of_lt_of_eq t.isLt N_0
  have h0 : (j 0).val < 16 := (j 0).isLt
  unfold iblk
  rw [View.read_apply]
  show V m c main_arg0 _ = _
  rw [V_main_arg0]
  congr 1
  funext a
  apply Fin.ext
  match a with
  | ⟨0, _⟩ => show win0_0.index t 0 * 16 + 1 * (j 0).val = (16 * t.val + (j 0).val) % 128; rw [hi.1]; omega
  | ⟨1, _⟩ => show win0_0.index t 1 * 84 + 1 * (j 1).val = (j 1).val; rw [hi.2.1]; omega
  | ⟨2, _⟩ => show win0_0.index t 2 * 84 + 1 * (j 2).val = (j 2).val; rw [hi.2.2]; omega

/-- The momentum's block at a point: its sixteen channels. -/
theorem iblk1_apply (c : Dev nD) (t : Fin cfg0.N) (j : S16x84x84.Idx) :
    (iblk m c 1 t : Vec Ideal S16x84x84 .f32) j
      = (m ((c : Thread nD τ).loc main_arg1) : Vec Ideal S128x84x84 .f32)
          (ix3 ⟨(16 * t.val + (j 0).val) % 128, Nat.mod_lt _ (by decide)⟩ ⟨(j 1).val, (j 1).isLt⟩ ⟨(j 2).val, (j 2).isLt⟩) := by
  have hi : win0_1.index t 0 = t.val ∧ win0_1.index t 1 = 0 ∧ win0_1.index t 2 = 0 :=
    (by decide +kernel : ∀ t : Fin grid0.N, win0_1.index t 0 = t.val ∧ win0_1.index t 1 = 0 ∧ win0_1.index t 2 = 0) t
  have ht : t.val < 8 := lt_of_lt_of_eq t.isLt N_0
  have h0 : (j 0).val < 16 := (j 0).isLt
  unfold iblk
  rw [View.read_apply]
  show V m c main_arg1 _ = _
  rw [V_main_arg1]
  congr 1
  funext a
  apply Fin.ext
  match a with
  | ⟨0, _⟩ => show win0_1.index t 0 * 16 + 1 * (j 0).val = (16 * t.val + (j 0).val) % 128; rw [hi.1]; omega
  | ⟨1, _⟩ => show win0_1.index t 1 * 84 + 1 * (j 1).val = (j 1).val; rw [hi.2.1]; omega
  | ⟨2, _⟩ => show win0_1.index t 2 * 84 + 1 * (j 2).val = (j 2).val; rw [hi.2.2]; omega

/-- The array of shift counts. -/
def cnts : Vec Ideal S16x84x84 .i8 := fun i => lit0 (S16x84x84.rowMajor i)

/-- The shift counts' block is the whole array, at every point. -/
theorem iblk2_eq (c : Dev nD) (t : Fin cfg0.N) : (iblk m c 2 t : Vec Ideal S16x84x84 .i8) = cnts := by
  have hi : win0_2.index t 0 = 0 ∧ win0_2.index t 1 = 0 ∧ win0_2.index t 2 = 0 :=
    (by decide +kernel : ∀ t : Fin grid0.N, win0_2.index t 0 = 0 ∧ win0_2.index t 1 = 0 ∧ win0_2.index t 2 = 0) t
  funext j
  unfold iblk
  rw [View.read_apply]
  show V m c main_c _ = _
  have hV : (V m c main_c : Vec Ideal S16x84x84 .i8) = cnts := by
    unfold V hostOps0
    after_results
    rfl
  refine (congrFun hV _).trans (congrArg cnts ?_)
  funext a
  apply Fin.ext
  match a with
  | ⟨0, _⟩ => show win0_2.index t 0 * 16 + 1 * (j 0).val = (j 0).val; rw [hi.1]; omega
  | ⟨1, _⟩ => show win0_2.index t 1 * 84 + 1 * (j 1).val = (j 1).val; rw [hi.2.1]; omega
  | ⟨2, _⟩ => show win0_2.index t 2 * 84 + 1 * (j 2).val = (j 2).val; rw [hi.2.2]; omega

/-- The mask's block is the whole array, at every point. -/
theorem iblk3_eq (c : Dev nD) (t : Fin cfg0.N) :
    (iblk m c 3 t : Vec Ideal S84x84 .f32) = m ((c : Thread nD τ).loc main_arg3) := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg3 _ = _
  rw [V_main_arg3]
  congr 1
  funext a
  apply Fin.ext
  match a with
  | ⟨0, _⟩ => show win0_3.index t 0 * 84 + 1 * (j 0).val = (j 0).val; rw [hi.1]; omega
  | ⟨1, _⟩ => show win0_3.index t 1 * 84 + 1 * (j 1).val = (j 1).val; rw [hi.2]; omega

/-- One point's update takes the accumulator after `t` points to that after `t + 1`. -/
theorem step_dots (c : Dev nD) (t : Fin cfg0.N) :
    stepArr (iblk m c 0 t) (iblk m c 1 t) (dots (m ((c : Thread nD τ).loc main_arg0)) (m ((c : Thread nD τ).loc main_arg1)) t.val)
      = dots (m ((c : Thread nD τ).loc main_arg0)) (m ((c : Thread nD τ).loc main_arg1)) (t.val + 1) := by
  funext y
  unfold stepArr dots
  rw [Finset.sum_range_succ]
  refine congrArg _ (Finset.sum_congr rfl fun ch _ => ?_)
  exact congrArg₂ (fun a b : EReal => a * b) (iblk0_apply m c t _) (iblk1_apply m c t _)

/-- The accumulator the kernel starts with is zero. -/
theorem dots_zero (A B : Vec Ideal S128x84x84 .f32) : k0_pay16 (F := Ideal) = dots A B 0 := by
  funext y
  unfold dots
  rw [Finset.sum_range_zero]
  show (Ideal.ofBits .f32 0x00000000#32 : EReal) = 0
  simp [Ideal.ofBits, Ideal.ieee]

/-- What the accumulator holds after point `n`, before the last. -/
theorem acc_dots (c : Dev nD) (n : Nat) (h : 0 + n < cfg0.N) (hn : n < 7) :
    (Pipeline.accAt (fun n h => stAt0 m c n h junk0) (stAt0 m c) 0 n h).2
      = dots (m ((c : Thread nD τ).loc main_arg0)) (m ((c : Thread nD τ).loc main_arg1)) (n + 1) := by
  induction n with
  | zero =>
    show (stAt0 m c 0 h junk0).2 = _
    rw [stAt0_A m c ⟨0, h⟩ _ (Nat.zero_mod _) (by show ¬ 0 % 8 = 7; omega)]
    dsimp only
    rw [sout_A, dots_zero (m ((c : Thread nD τ).loc main_arg0)) (m ((c : Thread nD τ).loc main_arg1))]
    exact step_dots m c ⟨0, h⟩
  | succ k ih =>
    have hk : 0 + (k + 1) = k + 1 := by omega
    show (stAt0 m c (0 + (k + 1)) h (Pipeline.accAt (fun n h => stAt0 m c n h junk0) (stAt0 m c) 0 k _)).2 = _
    rw [stAt0_B m c ⟨0 + (k + 1), h⟩ _ (by show ¬ (0 + (k + 1)) % 8 = 0; omega) (by show ¬ (0 + (k + 1)) % 8 = 7; omega)]
    dsimp only
    rw [sout_B, ih (by omega) (by omega)]
    have := step_dots m c ⟨0 + (k + 1), h⟩
    simp only [Nat.zero_add] at this ⊢
    exact this

attribute [local irreducible] finalOf dots stepArr

/-- What the last point writes, of what the accumulator held before it. -/
theorem last_out (c : Dev nD) (t : Fin cfg0.N) (ht : t.val = 7) (acc : Vec Ideal S1x1 .f32 × Vec Ideal S17x84x84 .f32)
    (ha : acc.2 = dots (m ((c : Thread nD τ).loc main_arg0)) (m ((c : Thread nD τ).loc main_arg1)) t.val) :
    (stAt0 m c t.val t.isLt acc).1
      = finalOf (fun k h => View.ld (dots (m ((c : Thread nD τ).loc main_arg0)) (m ((c : Thread nD τ).loc main_arg1)) (t.val + 1))
          (Rect.unit (s := S17x84x84) ![k, 0, 0] ![1, 84, 84] h)) cnts (m ((c : Thread nD τ).loc main_arg3)) := by
  rw [stAt0_C m c t acc (by omega) (by omega)]
  dsimp only
  rw [out_C, ha, step_dots, iblk2_eq, iblk3_eq]

/-- The kernel's result: the last point's computation of the accumulator over all channels, the shift counts and the mask. -/
theorem result_eq (c : Dev nD) :
    G4 m c = finalOf (fun k h => View.ld (dots (m ((c : Thread nD τ).loc main_arg0)) (m ((c : Thread nD τ).loc main_arg1)) 8)
      (Rect.unit (s := S17x84x84) ![k, 0, 0] ![1, 84, 84] h)) cnts (m ((c : Thread nD τ).loc main_arg3)) := by
  have h7 : 0 + 7 < cfg0.N := lt_of_lt_of_eq (by decide) N_0.symm
  rw [G4_last, Pipeline.accAt_succ]
  exact last_out m c ⟨0 + 7, h7⟩ (by show 0 + 7 = 7; omega) _ (acc_dots m c 6 (by omega) (by omega))

end Cert.Body

end
-- ==== Proof.Final.lean ====
/- The last point's computation, read: the kernel's result as a formula of the accumulator `D`, the shift counts and the mask,
   in sums over the rows and columns of the image. -/
module

public import proofs.«01_k».proof.Proof.Out

@[expose] public section

noncomputable section

namespace Cert.Body

open Cert.KernelIdeal Cert.KernelIdeal.Gen Idealize.ShloMosaic Idealize.ShloMosaic.TcCoe Idealize.SL.Sem

/-- One plus a channel sum, over the temperature. -/
def lg (x : EReal) : EReal := (Ideal.ofBits .f32 0x3F800000#32 + x) * ((134217728 / 13421773 : ℝ) : EReal)

/-- The kernel's scaled similarity at a pixel. -/
theorem pay4_apply (d : Vec Ideal S1x84x84 .f32) (r q : Fin 84) : k0_pay4 d (ix2 r q) = lg (d (ix3 0 r q)) := by
  have hs : (shapeCast S84x84 d shapeCasts_S1x84x84_S84x84 (ix2 r q) : EReal) = d (ix3 0 r q) := by
    refine (shapeCast_dropUnit_apply (n := 2) ![84, 84] d _ _).trans (congrArg d (funext fun a => ?_))
    match a with
    | ⟨0, _⟩ => rfl
    | ⟨1, _⟩ => rfl
    | ⟨2, _⟩ => rfl
  have hn : (Named.named κ "inv_tau" 0x41200000#32 : Ideal .f32) = ((134217728 / 13421773 : ℝ) : EReal) :=
    IdealRules.named_const.ideal_named_scalar _ _ _ _ rfl
  show (Ideal.ofBits .f32 0x3F800000#32 + shapeCast S84x84 d shapeCasts_S1x84x84_S84x84 (ix2 r q) : EReal)
    * (Named.named κ "inv_tau" 0x41200000#32 : Ideal .f32) = _
  rw [hs, hn]
  rfl

/-- A shift count at a pixel, as a real number. -/
theorem pay6_apply (n : Vec Ideal S1x84x84 .i8) (r q : Fin 84) :
    k0_pay6 (F := Ideal) n (ix2 r q) = (((n (ix3 0 r q) : BitVec 8).toNat : ℝ) : EReal) := by
  have hs : (shapeCast S84x84 n shapeCasts_S1x84x84_S84x84 (ix2 r q) : BitVec 8) = n (ix3 0 r q) := by
    refine (shapeCast_dropUnit_apply (n := 2) ![84, 84] n _ _).trans (congrArg n (funext fun a => ?_))
    match a with
    | ⟨0, _⟩ => rfl
    | ⟨1, _⟩ => rfl
    | ⟨2, _⟩ => rfl
  exact congrArg (fun b : BitVec 8 => ((b.toNat : ℝ) : EReal)) hs

/-- One shift's addition to the sum: its count times the exponential of its scaled similarity. -/
def addTerm (acc : FVec Ideal S84x84 .f32) (n : Vec Ideal S1x84x84 .i8) (d : Vec Ideal S1x84x84 .f32) : FVec Ideal S84x84 .f32 :=
  addf acc (mulf (k0_pay6 n) (exp (k0_pay4 d)))

/-- One shift's addition at a pixel. -/
theorem addTerm_apply (acc : FVec Ideal S84x84 .f32) (n : Vec Ideal S1x84x84 .i8) (d : Vec Ideal S1x84x84 .f32) (r q : Fin 84) :
    addTerm acc n d (ix2 r q) = (acc (ix2 r q) : EReal)
      + (((n (ix3 0 r q) : BitVec 8).toNat : ℝ) : EReal) * Ideal.exp (lg (d (ix3 0 r q))) := by
  show (acc (ix2 r q) : EReal) + (k0_pay6 (F := Ideal) n (ix2 r q) : EReal) * Ideal.exp (k0_pay4 d (ix2 r q)) = _
  rw [pay6_apply, pay4_apply]

/-- The own pixel's exponential plus the sixteen shifts', each times its count. -/
def sumS (rd : (k : Nat) → (∀ i, (![k, 0, 0] : Fin 3 → Nat) i + (![1, 84, 84] : Fin 3 → Nat) i ≤ S17x84x84.size i) → Vec Ideal S1x84x84 .f32)
    (x2 : Vec Ideal S16x84x84 .i8) : FVec Ideal S84x84 .f32 :=
  addTerm (addTerm (addTerm (addTerm (addTerm (addTerm (addTerm (addTerm (addTerm (addTerm (addTerm (addTerm (addTerm (addTerm (addTerm (addTerm (exp (F := Ideal) (φ := .f32) (k0_pay4 (rd 0 inb_S17x84x84_S1x84x84_0_0_0)))
    (View.ld x2 (Rect.unit ![0, 0, 0] ![1, 84, 84] inb_S16x84x84_S1x84x84_0_0_0)) (rd 1 inb_S17x84x84_S1x84x84_1_0_0))
    (View.ld x2 (Rect.unit ![1, 0, 0] ![1, 84, 84] inb_S16x84x84_S1x84x84_1_0_0)) (rd 2 inb_S17x84x84_S1x84x84_2_0_0))
    (View.ld x2 (Rect.unit ![2, 0, 0] ![1, 84, 84] inb_S16x84x84_S1x84x84_2_0_0)) (rd 3 inb_S17x84x84_S1x84x84_3_0_0))
    (View.ld x2 (Rect.unit ![3, 0, 0] ![1, 84, 84] inb_S16x84x84_S1x84x84_3_0_0)) (rd 4 inb_S17x84x84_S1x84x84_4_0_0))
    (View.ld x2 (Rect.unit ![4, 0, 0] ![1, 84, 84] inb_S16x84x84_S1x84x84_4_0_0)) (rd 5 inb_S17x84x84_S1x84x84_5_0_0))
    (View.ld x2 (Rect.unit ![5, 0, 0] ![1, 84, 84] inb_S16x84x84_S1x84x84_5_0_0)) (rd 6 inb_S17x84x84_S1x84x84_6_0_0))
    (View.ld x2 (Rect.unit ![6, 0, 0] ![1, 84, 84] inb_S16x84x84_S1x84x84_6_0_0)) (rd 7 inb_S17x84x84_S1x84x84_7_0_0))
    (View.ld x2 (Rect.unit ![7, 0, 0] ![1, 84, 84] inb_S16x84x84_S1x84x84_7_0_0)) (rd 8 inb_S17x84x84_S1x84x84_8_0_0))
    (View.ld x2 (Rect.unit ![8, 0, 0] ![1, 84, 84] inb_S16x84x84_S1x84x84_8_0_0)) (rd 9 inb_S17x84x84_S1x84x84_9_0_0))
    (View.ld x2 (Rect.unit ![9, 0, 0] ![1, 84, 84] inb_S16x84x84_S1x84x84_9_0_0)) (rd 10 inb_S17x84x84_S1x84x84_10_0_0))
    (View.ld x2 (Rect.unit ![10, 0, 0] ![1, 84, 84] inb_S16x84x84_S1x84x84_10_0_0)) (rd 11 inb_S17x84x84_S1x84x84_11_0_0))
    (View.ld x2 (Rect.unit ![11, 0, 0] ![1, 84, 84] inb_S16x84x84_S1x84x84_11_0_0)) (rd 12 inb_S17x84x84_S1x84x84_12_0_0))
    (View.ld x2 (Rect.unit ![12, 0, 0] ![1, 84, 84] inb_S16x84x84_S1x84x84_12_0_0)) (rd 13 inb_S17x84x84_S1x84x84_13_0_0))
    (View.ld x2 (Rect.unit ![13, 0, 0] ![1, 84, 84] inb_S16x84x84_S1x84x84_13_0_0)) (rd 14 inb_S17x84x84_S1x84x84_14_0_0))
    (View.ld x2 (Rect.unit ![14, 0, 0] ![1, 84, 84] inb_S16x84x84_S1x84x84_14_0_0)) (rd 15 inb_S17x84x84_S1x84x84_15_0_0))
    (View.ld x2 (Rect.unit ![15, 0, 0] ![1, 84, 84] inb_S16x84x84_S1x84x84_15_0_0)) (rd 16 inb_S17x84x84_S1x84x84_16_0_0)

/-- The sum over an 84 × 84 plane as the kernel takes it. -/
def planeSum (v : FVec Ideal S84x84 .f32) : Ideal .f32 :=
  extractAt ![0, 0, 0] (shapeCast S1x1x1 (multiReduction .add [1, 2] S1 (shapeCast S1x84x84 v shapeCasts_S84x84_S1x84x84)
    0x00000000#32 reduces_S1x84x84_S1 (.inl rfl) rfl) shapeCasts_S1_S1x1x1) inpos_S1x1x1_p0_0_0

/-- It is the double sum over rows and columns. -/
theorem planeSum_eq (v : FVec Ideal S84x84 .f32) : planeSum v = ∑ r : Fin 84, ∑ q : Fin 84, (v (ix2 r q) : EReal) := by
  refine Eq.trans (Ideal.reduceAdd_r3_a12 reduces_S1x84x84_S1 (shapeCast S1x84x84 v shapeCasts_S84x84_S1x84x84) _) ?_
  refine Finset.sum_congr rfl fun r _ => Finset.sum_congr rfl fun q _ => ?_
  refine (shapeCast_addUnit_apply (n := 2) ![84, 84] v _ _).trans (congrArg v (funext fun a => ?_))
  match a with
  | ⟨0, _⟩ => rfl
  | ⟨1, _⟩ => rfl

/-- The kernel's total, before the division, of the scaled own similarity, the sums and the mask. -/
def total (a s m : FVec Ideal S84x84 .f32) : Ideal .f32 :=
  Scalar.addf (Scalar.mulf (Scalar.ofBits .f32 0x45DC8000#32) (planeSum (mulf m (subf (broadcast S84x84 (Scalar.ofBits .f32 0x00000000#32)) a))))
    (Scalar.mulf (planeSum (log s)) (planeSum m))

/-- The last point's result is the total over the squared pixel count. -/
theorem finalOf_total (rd : (k : Nat) → (∀ i, (![k, 0, 0] : Fin 3 → Nat) i + (![1, 84, 84] : Fin 3 → Nat) i ≤ S17x84x84.size i) → Vec Ideal S1x84x84 .f32)
    (x2 : Vec Ideal S16x84x84 .i8) (x3 : Vec Ideal S84x84 .f32) :
    finalOf rd x2 x3 = k0_pay3 (total (k0_pay4 (rd 0 inb_S17x84x84_S1x84x84_0_0_0)) (sumS rd x2)
      (View.ld x3 (Rect.unit ![0, 0] ![84, 84] inb_S84x84_S84x84_0_0))) (FloatOps.ofBits FTy.f32 0x4C3DEC40#32) := rfl

/-- Sixteen additions in order are a sum. -/
theorem chain16 (e : EReal) (f : Fin 16 → EReal) :
    e + f 0 + f 1 + f 2 + f 3 + f 4 + f 5 + f 6 + f 7 + f 8 + f 9 + f 10 + f 11 + f 12 + f 13 + f 14 + f 15 = e + ∑ s : Fin 16, f s := by
  simp only [Fin.sum_univ_succ, Fin.sum_univ_zero, add_zero, add_assoc]
  rfl

/-- A plane of an array, read through its rectangle. -/
theorem ld_plane {n : Nat} {e : EltTy} (D : Vec Ideal ⟨3, ![n, 84, 84]⟩ e) (k : Fin n)
    (h : ∀ i, (![k.val, 0, 0] : Fin 3 → Nat) i + (![1, 84, 84] : Fin 3 → Nat) i ≤ (⟨3, ![n, 84, 84]⟩ : Shape).size i) (r q : Fin 84) :
    View.ld D (Rect.unit (s := ⟨3, ![n, 84, 84]⟩) ![k.val, 0, 0] ![1, 84, 84] h) (ix3 0 r q) = D (ix3 k r q) := by
  refine congrArg D (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

/-- The sum at a pixel: the own exponential plus the sum over the shifts of count times exponential. -/
theorem sumS_apply (D : Vec Ideal S17x84x84 .f32) (x2 : Vec Ideal S16x84x84 .i8) (r q : Fin 84) :
    sumS (fun k h => View.ld D (Rect.unit (s := S17x84x84) ![k, 0, 0] ![1, 84, 84] h)) x2 (ix2 r q)
      = Ideal.exp (lg (D (ix3 0 r q))) + ∑ s : Fin 16, (((x2 (ix3 s r q) : BitVec 8).toNat : ℝ) : EReal) * Ideal.exp (lg (D (ix3 s.succ r q))) := by
  have he : exp (F := Ideal) (φ := .f32) (k0_pay4 (View.ld D (Rect.unit (s := S17x84x84) ![0, 0, 0] ![1, 84, 84] inb_S17x84x84_S1x84x84_0_0_0))) (ix2 r q)
      = Ideal.exp (lg (D (ix3 0 r q))) :=
    congrArg Ideal.exp ((pay4_apply _ r q).trans (congrArg lg (ld_plane (n := 17) D 0 _ r q)))
  rw [← chain16]
  unfold sumS
  simp only [addTerm_apply]
  rw [he]
  rw [show View.ld x2 (Rect.unit (s := S16x84x84) ![0, 0, 0] ![1, 84, 84] inb_S16x84x84_S1x84x84_0_0_0) (ix3 0 r q) = x2 (ix3 0 r q) from ld_plane (n := 16) x2 0 _ r q,
    show View.ld D (Rect.unit (s := S17x84x84) ![1, 0, 0] ![1, 84, 84] inb_S17x84x84_S1x84x84_1_0_0) (ix3 0 r q) = D (ix3 1 r q) from ld_plane (n := 17) D 1 _ r q]
  rw [show View.ld x2 (Rect.unit (s := S16x84x84) ![1, 0, 0] ![1, 84, 84] inb_S16x84x84_S1x84x84_1_0_0) (ix3 0 r q) = x2 (ix3 1 r q) from ld_plane (n := 16) x2 1 _ r q,
    show View.ld D (Rect.unit (s := S17x84x84) ![2, 0, 0] ![1, 84, 84] inb_S17x84x84_S1x84x84_2_0_0) (ix3 0 r q) = D (ix3 2 r q) from ld_plane (n := 17) D 2 _ r q]
  rw [show View.ld x2 (Rect.unit (s := S16x84x84) ![2, 0, 0] ![1, 84, 84] inb_S16x84x84_S1x84x84_2_0_0) (ix3 0 r q) = x2 (ix3 2 r q) from ld_plane (n := 16) x2 2 _ r q,
    show View.ld D (Rect.unit (s := S17x84x84) ![3, 0, 0] ![1, 84, 84] inb_S17x84x84_S1x84x84_3_0_0) (ix3 0 r q) = D (ix3 3 r q) from ld_plane (n := 17) D 3 _ r q]
  rw [show View.ld x2 (Rect.unit (s := S16x84x84) ![3, 0, 0] ![1, 84, 84] inb_S16x84x84_S1x84x84_3_0_0) (ix3 0 r q) = x2 (ix3 3 r q) from ld_plane (n := 16) x2 3 _ r q,
    show View.ld D (Rect.unit (s := S17x84x84) ![4, 0, 0] ![1, 84, 84] inb_S17x84x84_S1x84x84_4_0_0) (ix3 0 r q) = D (ix3 4 r q) from ld_plane (n := 17) D 4 _ r q]
  rw [show View.ld x2 (Rect.unit (s := S16x84x84) ![4, 0, 0] ![1, 84, 84] inb_S16x84x84_S1x84x84_4_0_0) (ix3 0 r q) = x2 (ix3 4 r q) from ld_plane (n := 16) x2 4 _ r q,
    show View.ld D (Rect.unit (s := S17x84x84) ![5, 0, 0] ![1, 84, 84] inb_S17x84x84_S1x84x84_5_0_0) (ix3 0 r q) = D (ix3 5 r q) from ld_plane (n := 17) D 5 _ r q]
  rw [show View.ld x2 (Rect.unit (s := S16x84x84) ![5, 0, 0] ![1, 84, 84] inb_S16x84x84_S1x84x84_5_0_0) (ix3 0 r q) = x2 (ix3 5 r q) from ld_plane (n := 16) x2 5 _ r q,
    show View.ld D (Rect.unit (s := S17x84x84) ![6, 0, 0] ![1, 84, 84] inb_S17x84x84_S1x84x84_6_0_0) (ix3 0 r q) = D (ix3 6 r q) from ld_plane (n := 17) D 6 _ r q]
  rw [show View.ld x2 (Rect.unit (s := S16x84x84) ![6, 0, 0] ![1, 84, 84] inb_S16x84x84_S1x84x84_6_0_0) (ix3 0 r q) = x2 (ix3 6 r q) from ld_plane (n := 16) x2 6 _ r q,
    show View.ld D (Rect.unit (s := S17x84x84) ![7, 0, 0] ![1, 84, 84] inb_S17x84x84_S1x84x84_7_0_0) (ix3 0 r q) = D (ix3 7 r q) from ld_plane (n := 17) D 7 _ r q]
  rw [show View.ld x2 (Rect.unit (s := S16x84x84) ![7, 0, 0] ![1, 84, 84] inb_S16x84x84_S1x84x84_7_0_0) (ix3 0 r q) = x2 (ix3 7 r q) from ld_plane (n := 16) x2 7 _ r q,
    show View.ld D (Rect.unit (s := S17x84x84) ![8, 0, 0] ![1, 84, 84] inb_S17x84x84_S1x84x84_8_0_0) (ix3 0 r q) = D (ix3 8 r q) from ld_plane (n := 17) D 8 _ r q]
  rw [show View.ld x2 (Rect.unit (s := S16x84x84) ![8, 0, 0] ![1, 84, 84] inb_S16x84x84_S1x84x84_8_0_0) (ix3 0 r q) = x2 (ix3 8 r q) from ld_plane (n := 16) x2 8 _ r q,
    show View.ld D (Rect.unit (s := S17x84x84) ![9, 0, 0] ![1, 84, 84] inb_S17x84x84_S1x84x84_9_0_0) (ix3 0 r q) = D (ix3 9 r q) from ld_plane (n := 17) D 9 _ r q]
  rw [show View.ld x2 (Rect.unit (s := S16x84x84) ![9, 0, 0] ![1, 84, 84] inb_S16x84x84_S1x84x84_9_0_0) (ix3 0 r q) = x2 (ix3 9 r q) from ld_plane (n := 16) x2 9 _ r q,
    show View.ld D (Rect.unit (s := S17x84x84) ![10, 0, 0] ![1, 84, 84] inb_S17x84x84_S1x84x84_10_0_0) (ix3 0 r q) = D (ix3 10 r q) from ld_plane (n := 17) D 10 _ r q]
  rw [show View.ld x2 (Rect.unit (s := S16x84x84) ![10, 0, 0] ![1, 84, 84] inb_S16x84x84_S1x84x84_10_0_0) (ix3 0 r q) = x2 (ix3 10 r q) from ld_plane (n := 16) x2 10 _ r q,
    show View.ld D (Rect.unit (s := S17x84x84) ![11, 0, 0] ![1, 84, 84] inb_S17x84x84_S1x84x84_11_0_0) (ix3 0 r q) = D (ix3 11 r q) from ld_plane (n := 17) D 11 _ r q]
  rw [show View.ld x2 (Rect.unit (s := S16x84x84) ![11, 0, 0] ![1, 84, 84] inb_S16x84x84_S1x84x84_11_0_0) (ix3 0 r q) = x2 (ix3 11 r q) from ld_plane (n := 16) x2 11 _ r q,
    show View.ld D (Rect.unit (s := S17x84x84) ![12, 0, 0] ![1, 84, 84] inb_S17x84x84_S1x84x84_12_0_0) (ix3 0 r q) = D (ix3 12 r q) from ld_plane (n := 17) D 12 _ r q]
  rw [show View.ld x2 (Rect.unit (s := S16x84x84) ![12, 0, 0] ![1, 84, 84] inb_S16x84x84_S1x84x84_12_0_0) (ix3 0 r q) = x2 (ix3 12 r q) from ld_plane (n := 16) x2 12 _ r q,
    show View.ld D (Rect.unit (s := S17x84x84) ![13, 0, 0] ![1, 84, 84] inb_S17x84x84_S1x84x84_13_0_0) (ix3 0 r q) = D (ix3 13 r q) from ld_plane (n := 17) D 13 _ r q]
  rw [show View.ld x2 (Rect.unit (s := S16x84x84) ![13, 0, 0] ![1, 84, 84] inb_S16x84x84_S1x84x84_13_0_0) (ix3 0 r q) = x2 (ix3 13 r q) from ld_plane (n := 16) x2 13 _ r q,
    show View.ld D (Rect.unit (s := S17x84x84) ![14, 0, 0] ![1, 84, 84] inb_S17x84x84_S1x84x84_14_0_0) (ix3 0 r q) = D (ix3 14 r q) from ld_plane (n := 17) D 14 _ r q]
  rw [show View.ld x2 (Rect.unit (s := S16x84x84) ![14, 0, 0] ![1, 84, 84] inb_S16x84x84_S1x84x84_14_0_0) (ix3 0 r q) = x2 (ix3 14 r q) from ld_plane (n := 16) x2 14 _ r q,
    show View.ld D (Rect.unit (s := S17x84x84) ![15, 0, 0] ![1, 84, 84] inb_S17x84x84_S1x84x84_15_0_0) (ix3 0 r q) = D (ix3 15 r q) from ld_plane (n := 17) D 15 _ r q]
  rw [show View.ld x2 (Rect.unit (s := S16x84x84) ![15, 0, 0] ![1, 84, 84] inb_S16x84x84_S1x84x84_15_0_0) (ix3 0 r q) = x2 (ix3 15 r q) from ld_plane (n := 16) x2 15 _ r q,
    show View.ld D (Rect.unit (s := S17x84x84) ![16, 0, 0] ![1, 84, 84] inb_S17x84x84_S1x84x84_16_0_0) (ix3 0 r q) = D (ix3 16 r q) from ld_plane (n := 17) D 16 _ r q]
  rfl

/-- The kernel's result, of the accumulator, the shift counts and the mask. -/
theorem finalOf_eq (D : Vec Ideal S17x84x84 .f32) (x2 : Vec Ideal S16x84x84 .i8) (x3 : Vec Ideal S84x84 .f32) (i : S1x1.Idx) :
    finalOf (fun k h => View.ld D (Rect.unit (s := S17x84x84) ![k, 0, 0] ![1, 84, 84] h)) x2 x3 i
      = Ideal.div (Ideal.ofBits .f32 0x45DC8000#32
            * (∑ r : Fin 84, ∑ q : Fin 84, (x3 (ix2 r q) : EReal) * (Ideal.ofBits .f32 0x00000000#32 - lg (D (ix3 0 r q))))
          + (∑ r : Fin 84, ∑ q : Fin 84, Ideal.log (Ideal.exp (lg (D (ix3 0 r q)))
              + ∑ s : Fin 16, (((x2 (ix3 s r q) : BitVec 8).toNat : ℝ) : EReal) * Ideal.exp (lg (D (ix3 s.succ r q)))))
            * (∑ r : Fin 84, ∑ q : Fin 84, (x3 (ix2 r q) : EReal)))
        (Ideal.ofBits .f32 0x4C3DEC40#32) := by
  rw [finalOf_total, View.ld_unit_zero (by funext i; fin_cases i <;> rfl)]
  refine congrArg (fun x => Ideal.div x (Ideal.ofBits .f32 0x4C3DEC40#32)) ?_
  refine congrArg₂ (fun x y : EReal => x + y) ?_ ?_
  · refine congrArg (fun x : EReal => Ideal.ofBits .f32 0x45DC8000#32 * x) ((planeSum_eq _).trans ?_)
    refine Finset.sum_congr rfl fun r _ => Finset.sum_congr rfl fun q _ => ?_
    refine congrArg (fun x : EReal => (x3 (ix2 r q) : EReal) * (Ideal.ofBits .f32 0x00000000#32 - x)) ?_
    exact (pay4_apply _ r q).trans (congrArg lg (ld_plane (n := 17) D 0 _ r q))
  · refine congrArg₂ (fun x y : EReal => x * y) ((planeSum_eq _).trans ?_) (planeSum_eq _)
    refine Finset.sum_congr rfl fun r _ => Finset.sum_congr rfl fun q _ => ?_
    exact congrArg Ideal.log (sumS_apply D x2 r q)

end Cert.Body

end
-- ==== Proof.Consts.lean ====
/- The values of the float constants that the two programs and the precondition write. -/
module

public import Idealize.ShloMosaic.PureOps.Ideal

@[expose] public section

noncomputable section

namespace Cert.Consts

open Idealize.ShloMosaic

/-- The word of 1. -/
theorem one_word : Ideal.ofBits .f32 0x3F800000#32 = ((1 : ℝ) : EReal) := by
  simp [Ideal.ofBits, Ideal.ieee, -EReal.coe_mul]; norm_num

/-- The word of 0. -/
theorem zero_word : Ideal.ofBits .f32 0x00000000#32 = ((0 : ℝ) : EReal) := by
  simp [Ideal.ofBits, Ideal.ieee]

/-- The word of the number of pixels, 7056. -/
theorem pixels_word : Ideal.ofBits .f32 0x45DC8000#32 = ((7056 : ℝ) : EReal) := by
  simp [Ideal.ofBits, Ideal.ieee, -EReal.coe_mul]; norm_num

/-- The word of the number of pairs of pixels, 7056². -/
theorem pairs_word : Ideal.ofBits .f32 0x4C3DEC40#32 = ((49787136 : ℝ) : EReal) := by
  simp [Ideal.ofBits, Ideal.ieee, -EReal.coe_mul]; norm_num

/-- The word of the temperature, the float nearest 0.1. -/
theorem tau_word : Ideal.ofBits .f32 0x3DCCCCCD#32 = ((13421773 / 134217728 : ℝ) : EReal) := by
  simp [Ideal.ofBits, Ideal.ieee, -EReal.coe_mul]; norm_num

/-- The word of infinity. -/
theorem top_word : Ideal.ofBits .f32 0x7F800000#32 = ⊤ := by
  simp [Ideal.ofBits, Ideal.ieee]

end Cert.Consts

end
-- ==== Proof.Reals.lean ====
/- The two losses are one real number: the sum over pairs of pixels of minus the logarithms of the quotients, weighted by the
   mask, splits into sums over pixels. -/
module

public import proofs.«01_k».proof.Proof.Consts
public import Mathlib.Analysis.SpecialFunctions.Log.Basic

@[expose] public section

noncomputable section

namespace Cert.Reals

open Idealize.ShloMosaic

/-- A finite sum of reals, in the extended reals. -/
theorem sum_cast {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over pairs splits, over the reals. -/
theorem pairs_split {n : Nat} (x S m : Fin n → ℝ) (hS : ∀ i, 0 < S i) :
    ∑ a, ∑ b, (-Real.log (Real.exp (x b) / S a)) * m b
      = (n : ℝ) * (∑ p, m p * (0 - x p)) + (∑ p, Real.log (S p)) * (∑ p, m p) := by
  have h : ∀ a b, (-Real.log (Real.exp (x b) / S a)) * m b = m b * (0 - x b) + Real.log (S a) * m b := by
    intro a b
    rw [Real.log_div (Real.exp_pos _).ne' (hS a).ne', Real.log_exp]
    ring
  simp only [h, Finset.sum_add_distrib, Finset.sum_const, Finset.card_univ, Fintype.card_fin, nsmul_eq_mul]
  rw [Finset.sum_mul_sum]

/-- The logarithm of a positive real. -/
theorem log_pos {r : ℝ} (h : 0 < r) : Ideal.log (r : EReal) = ((Real.log r : ℝ) : EReal) := by
  rw [Ideal.log_coe, if_neg (not_le.mpr h)]

/-- A quotient of reals. -/
theorem div_real {y : ℝ} (h : y ≠ 0) (x : ℝ) : Ideal.div (x : EReal) (y : EReal) = ((x / y : ℝ) : EReal) := by
  rw [Ideal.div_coe h, ← EReal.coe_mul, mul_one_div]

/-- The reference's loss over the extended reals, of finite data. -/
theorem ref_loss (x S m : Fin 7056 → ℝ) (hS : ∀ i, 0 < S i) :
    Ideal.ofBits .f32 0x3F800000#32 * Ideal.div (Ideal.ofBits .f32 0x00000000#32
        + ∑ a : Fin 7056, ∑ b : Fin 7056, (-Ideal.log (Ideal.div ((Real.exp (x b) : ℝ) : EReal) ((S a : ℝ) : EReal))) * ((m b : ℝ) : EReal))
          (Ideal.ofBits .f32 0x4C3DEC40#32)
      + Ideal.ofBits .f32 0x3F800000#32 * Ideal.div (Ideal.ofBits .f32 0x00000000#32 + ∑ _k : Fin 1, Ideal.ofBits .f32 0x00000000#32)
          (Ideal.ofBits .f32 0x3F800000#32)
      = (((7056 * (∑ p, m p * (0 - x p)) + (∑ p, Real.log (S p)) * (∑ p, m p)) / 49787136 : ℝ) : EReal) := by
  have h : ∀ a b : Fin 7056, (-Ideal.log (Ideal.div ((Real.exp (x b) : ℝ) : EReal) ((S a : ℝ) : EReal))) * ((m b : ℝ) : EReal)
      = (((-Real.log (Real.exp (x b) / S a)) * m b : ℝ) : EReal) := by
    intro a b
    rw [div_real (hS a).ne', log_pos (div_pos (Real.exp_pos _) (hS a)), ← EReal.coe_neg, ← EReal.coe_mul]
  simp only [h, sum_cast, Consts.one_word, Consts.zero_word, Consts.pairs_word]
  rw [← EReal.coe_add, ← EReal.coe_add, div_real (by norm_num), div_real (by norm_num), ← EReal.coe_mul, ← EReal.coe_mul,
    ← EReal.coe_add, pairs_split x S m hS]
  congr 1
  simp

/-- The kernel's loss over the extended reals, of finite data. -/
theorem ker_loss (x S m : Fin 7056 → ℝ) (hS : ∀ i, 0 < S i) :
    Ideal.div (Ideal.ofBits .f32 0x45DC8000#32
        * (∑ p : Fin 7056, ((m p : ℝ) : EReal) * (Ideal.ofBits .f32 0x00000000#32 - ((x p : ℝ) : EReal)))
      + (∑ p : Fin 7056, Ideal.log ((S p : ℝ) : EReal)) * (∑ p : Fin 7056, ((m p : ℝ) : EReal))) (Ideal.ofBits .f32 0x4C3DEC40#32)
      = (((7056 * (∑ p, m p * (0 - x p)) + (∑ p, Real.log (S p)) * (∑ p, m p)) / 49787136 : ℝ) : EReal) := by
  simp only [log_pos (hS _), Consts.zero_word, Consts.pairs_word, Consts.pixels_word, ← EReal.coe_sub, ← EReal.coe_mul, sum_cast,
    ← EReal.coe_add]
  rw [div_real (by norm_num)]

/-- A sum over the rows and columns of the image is the sum over its pixel numbers. -/
theorem sum_pixels (F : Nat → EReal) :
    ∑ r : Fin 84, ∑ q : Fin 84, F (84 * r.val + q.val) = ∑ p : Fin 7056, F p.val := by
  rw [← Finset.sum_product' (f := fun (r q : Fin 84) => F (84 * r.val + q.val)), Finset.univ_product_univ]
  refine Fintype.sum_equiv (finProdFinEquiv (m := 84) (n := 84)) _ (fun p : Fin 7056 => F p.val) (fun z => ?_)
  show F (84 * z.1.val + z.2.val) = F (z.2.val + 84 * z.1.val)
  rw [Nat.add_comm]

/-- A sum over the channels, eight chunks of sixteen at a time. -/
theorem sum_chunks (f : Fin 128 → ℝ) :
    ∑ t ∈ Finset.range 8, ∑ ch : Fin 16, f ⟨(16 * t + ch.val) % 128, Nat.mod_lt _ (by decide)⟩ = ∑ ch : Fin 128, f ch := by
  rw [Finset.sum_range (fun t => ∑ ch : Fin 16, f ⟨(16 * t + ch.val) % 128, Nat.mod_lt _ (by decide)⟩)]
  rw [← Finset.sum_product' (f := fun (t : Fin 8) (ch : Fin 16) => f ⟨(16 * t.val + ch.val) % 128, Nat.mod_lt _ (by decide)⟩),
    Finset.univ_product_univ]
  refine Fintype.sum_equiv (finProdFinEquiv (m := 8) (n := 16)) _ f (fun z => ?_)
  refine congrArg f (Fin.ext ?_)
  have h1 := z.1.isLt
  have h2 := z.2.isLt
  show (16 * z.1.val + z.2.val) % 128 = z.2.val + 16 * z.1.val
  omega

end Cert.Reals

end
-- ==== Proof.KerVal.lean ====
/- The kernel's result of finite inputs: the loss as a real number, in sums over the pixel numbers. -/
module

public import proofs.«01_k».proof.Proof.Fold
public import proofs.«01_k».proof.Proof.Final
public import proofs.«01_k».proof.Proof.Reals
public import proofs.«01_k».proof.Proof.Table

@[expose] public section

noncomputable section

namespace Cert.Agree

open Cert.KernelIdeal Cert.KernelIdeal.Gen Idealize.ShloMosaic Idealize.ShloMosaic.TcCoe Idealize.SL.Sem Cert.Body Cert.Reals

/-- The index of channel `ch` at pixel number `n`. -/
def px (ch : Fin 128) (n : Nat) : S128x84x84.Idx := ix3 ch ⟨n / 84 % 84, Nat.mod_lt _ (by decide)⟩ ⟨n % 84, Nat.mod_lt _ (by decide)⟩

/-- The index of pixel number `n` in the mask. -/
def pm (n : Nat) : S84x84.Idx := ix2 ⟨n / 84 % 84, Nat.mod_lt _ (by decide)⟩ ⟨n % 84, Nat.mod_lt _ (by decide)⟩

/-- The inner product over the channels of one embedding at pixel `n` and the other at pixel `w`. -/
def dot (a b : S128x84x84.Idx → ℝ) (n w : Nat) : ℝ := ∑ ch : Fin 128, a (px ch n) * b (px ch w)

/-- The exponent of two pixels: one plus the inner product, over the temperature. -/
def expo (a b : S128x84x84.Idx → ℝ) (n w : Nat) : ℝ := (1 + dot a b n w) * (134217728 / 13421773)

/-- The sum of exponentials of a pixel: its own and, weighted by the counts, the shifts'. -/
def tot (a b : S128x84x84.Idx → ℝ) (n : Nat) : ℝ :=
  Real.exp (expo a b n n) + ∑ s : Fin 16, (Tab.cnt n s.val : ℝ) * Real.exp (expo a b n (Tab.shift n s.val))

/-- The sum of exponentials is positive. -/
theorem tot_pos (a b : S128x84x84.Idx → ℝ) (n : Nat) : 0 < tot a b n :=
  add_pos_of_pos_of_nonneg (Real.exp_pos _) (Finset.sum_nonneg fun s _ => mul_nonneg (Nat.cast_nonneg _) (Real.exp_pos _).le)

/-- The loss of finite embeddings and a finite mask. -/
def lossR (a b : S128x84x84.Idx → ℝ) (m : S84x84.Idx → ℝ) : ℝ :=
  (7056 * (∑ p : Fin 7056, m (pm p.val) * (0 - expo a b p.val p.val))
    + (∑ p : Fin 7056, Real.log (tot a b p.val)) * (∑ p : Fin 7056, m (pm p.val))) / 49787136

/-- Row `r`, column `q` of a channel is its pixel number `84 r + q`. -/
theorem px_eq (ch : Fin 128) (r q n : Nat) (hr : r < 84) (hq : q < 84) (h : n = 84 * r + q) : ix3 ch ⟨r, hr⟩ ⟨q, hq⟩ = px ch n := by
  subst h
  have h1 : (84 * r + q) / 84 % 84 = r := by omega
  have h2 : (84 * r + q) % 84 = q := by omega
  unfold px
  simp only [h1, h2]

/-- Row `r`, column `q` of the mask is its pixel number `84 r + q`. -/
theorem pm_eq (r q : Fin 84) : ix2 r q = pm (84 * r.val + q.val) := by
  have h1 : (84 * r.val + q.val) / 84 % 84 = r.val := by have := r.isLt; have := q.isLt; omega
  have h2 : (84 * r.val + q.val) % 84 = q.val := by have := q.isLt; omega
  unfold pm
  simp only [h1, h2]

/-- The accumulator, of finite embeddings, is their inner products. -/
theorem dots_real (A B : Vec Ideal S128x84x84 .f32) (a b : S128x84x84.Idx → ℝ) (hA : ∀ i, A i = ((a i : ℝ) : EReal))
    (hB : ∀ i, B i = ((b i : ℝ) : EReal)) (k : Fin 17) (r q : Fin 84) (w : Nat)
    (hw : w = 84 * srow k.val r.val + scol k.val q.val) :
    dots A B 8 (ix3 k r q) = ((dot a b (84 * r.val + q.val) w : ℝ) : EReal) := by
  have h : ∀ (t : Nat) (ch : Fin 16),
      (A (ix3 ⟨(16 * t + ch.val) % 128, Nat.mod_lt _ (by decide)⟩ ⟨r.val, r.isLt⟩ ⟨q.val, q.isLt⟩) : EReal)
        * (B (ix3 ⟨(16 * t + ch.val) % 128, Nat.mod_lt _ (by decide)⟩ ⟨srow k.val r.val, srow_lt _ _⟩ ⟨scol k.val q.val, scol_lt _ _⟩) : EReal)
      = (((fun c : Fin 128 => a (px c (84 * r.val + q.val)) * b (px c w)) ⟨(16 * t + ch.val) % 128, Nat.mod_lt _ (by decide)⟩ : ℝ) : EReal) := by
    intro t ch
    rw [hA, hB, ← EReal.coe_mul, px_eq _ _ _ _ r.isLt q.isLt rfl, px_eq _ _ _ w (srow_lt _ _) (scol_lt _ _) hw]
  refine (Finset.sum_congr rfl fun t _ => Finset.sum_congr rfl fun ch _ => h t ch).trans ?_
  simp only [sum_cast]
  rw [sum_chunks (fun c : Fin 128 => a (px c (84 * r.val + q.val)) * b (px c w))]
  rfl

/-- A count of the kernel's, as its table's. -/
theorem lit0_val (i : Fin 112896) : lit0 i = lit0t i.val := by
  cases i with
  | mk n h =>
    delta lit0
    generalize lit0t = f
    rfl

/-- The kernel's count of shift `s` at a pixel. -/
theorem cnts_val (s : Fin 16) (r q : Fin 84) : (cnts (ix3 s r q) : BitVec 8).toNat = Tab.cnt (84 * r.val + q.val) s.val := by
  unfold cnts Tab.cnt
  refine (congrArg BitVec.toNat (lit0_val (S16x84x84.rowMajor (ix3 s r q)))).trans ?_
  have h : (S16x84x84.rowMajor (ix3 s r q)).val = 7056 * s.val + (84 * r.val + q.val) := by
    rw [Shape.rowMajor_val_three]
    show (s.val * 84 + r.val) * 84 + q.val = _
    omega
  rw [h]

/-- A logarithm's argument, of a real. -/
theorem lg_real (x : ℝ) : lg (x : EReal) = (((1 + x) * (134217728 / 13421773) : ℝ) : EReal) := by
  unfold lg
  rw [Consts.one_word, ← EReal.coe_add, ← EReal.coe_mul]

/-- The kernel's result of finite inputs. -/
theorem ker_val (A B : Vec Ideal S128x84x84 .f32) (M : Vec Ideal S84x84 .f32) (a b : S128x84x84.Idx → ℝ) (m : S84x84.Idx → ℝ)
    (hA : ∀ i, A i = ((a i : ℝ) : EReal)) (hB : ∀ i, B i = ((b i : ℝ) : EReal)) (hM : ∀ i, M i = ((m i : ℝ) : EReal)) (i : S1x1.Idx) :
    finalOf (fun k h => View.ld (dots A B 8) (Rect.unit (s := S17x84x84) ![k, 0, 0] ![1, 84, 84] h)) cnts M i
      = ((lossR a b m : ℝ) : EReal) := by
  have own : ∀ r q : Fin 84, lg (dots A B 8 (ix3 0 r q)) = ((expo a b (84 * r.val + q.val) (84 * r.val + q.val) : ℝ) : EReal) := by
    intro r q
    rw [dots_real A B a b hA hB 0 r q (84 * r.val + q.val) (by
      have h1 := r.isLt
      have h2 := q.isLt
      show _ = 84 * (r.val % 84) + q.val % 84
      omega), lg_real]
    rfl
  have oth : ∀ (s : Fin 16) (r q : Fin 84), lg (dots A B 8 (ix3 s.succ r q))
      = ((expo a b (84 * r.val + q.val) (Tab.shift (84 * r.val + q.val) s.val) : ℝ) : EReal) := by
    intro s r q
    rw [dots_real A B a b hA hB s.succ r q (Tab.shift (84 * r.val + q.val) s.val) (by
      have h1 := r.isLt
      have h2 := q.isLt
      have h3 : (84 * r.val + q.val) / 84 = r.val := by omega
      have h4 : (84 * r.val + q.val) % 84 = q.val := by omega
      unfold Tab.shift
      rw [h3, h4]
      rfl), lg_real]
    rfl
  have sm : ∀ r q : Fin 84, Ideal.exp (lg (dots A B 8 (ix3 0 r q)))
        + ∑ s : Fin 16, (((cnts (ix3 s r q) : BitVec 8).toNat : ℝ) : EReal) * Ideal.exp (lg (dots A B 8 (ix3 s.succ r q)))
      = ((tot a b (84 * r.val + q.val) : ℝ) : EReal) := by
    intro r q
    simp only [own, oth, cnts_val, Ideal.exp_coe, ← EReal.coe_mul, sum_cast, ← EReal.coe_add]
    rfl
  rw [finalOf_eq]
  simp only [sm]
  simp only [own, hM, pm_eq]
  rw [sum_pixels (fun p => ((m (pm p) : ℝ) : EReal) * (Ideal.ofBits .f32 0x00000000#32 - ((expo a b p p : ℝ) : EReal))),
    sum_pixels (fun p => Ideal.log ((tot a b p : ℝ) : EReal)), sum_pixels (fun p => ((m (pm p) : ℝ) : EReal))]
  exact ker_loss (fun p => expo a b p.val p.val) (fun p => tot a b p.val) (fun p => m (pm p.val)) (fun p => tot_pos a b p.val)

end Cert.Agree

end
-- ==== Proof.Count.lean ====
/- What a tally in base 256 says: the digits are the numbers of times each value is taken, so a sum over the values taken is
   the sum over the digits' places weighted by the digits. -/
module

public import proofs.«01_k».proof.Proof.Table
public import Mathlib.Algebra.BigOperators.Group.Finset.Basic
public import Mathlib.Algebra.BigOperators.Intervals
public import Mathlib.Algebra.BigOperators.Ring.Finset
public import Mathlib.Data.Real.Basic

@[expose] public section

namespace Cert.Tab

/-- A conjunction accumulated over the numbers below `J` holds of each of them. -/
theorem all_of_rec (p : Nat → Bool) (J : Nat) (h : (Nat.rec true (fun j a => p j && a) J : Bool) = true) :
    ∀ j, j < J → p j = true := by
  induction J with
  | zero => intro j hj; omega
  | succ J ih =>
    have h' : (p J && (Nat.rec true (fun j a => p j && a) J : Bool)) = true := h
    rw [Bool.and_eq_true] at h'
    intro j hj
    rcases Nat.lt_succ_iff_lt_or_eq.mp hj with h1 | h1
    · exact ih h'.2 j h1
    · rw [h1]; exact h'.1

/-- A sum accumulated over the numbers below `K` is the sum over the range. -/
theorem sum_of_rec (f : Nat → Nat) (K : Nat) : (Nat.rec 0 (fun k a => a + f k) K : Nat) = ∑ k ∈ Finset.range K, f k := by
  induction K with
  | zero => rfl
  | succ K ih => rw [Finset.sum_range_succ, ← ih]

/-- Digits below 256 are determined by the number they spell. -/
theorem digits_unique (S : Nat) : ∀ (a b : Nat → Nat), (∀ s, s < S → a s < 256) → (∀ s, s < S → b s < 256) →
    ∑ s ∈ Finset.range S, 256 ^ s * a s = ∑ s ∈ Finset.range S, 256 ^ s * b s → ∀ s, s < S → a s = b s := by
  induction S with
  | zero => intro a b _ _ _ s hs; omega
  | succ S ih =>
    intro a b ha hb h
    have step : ∀ f : Nat → Nat, ∑ s ∈ Finset.range (S + 1), 256 ^ s * f s
        = 256 * (∑ s ∈ Finset.range S, 256 ^ s * f (s + 1)) + f 0 := by
      intro f
      rw [Finset.sum_range_succ', Finset.mul_sum]
      congr 1
      · refine Finset.sum_congr rfl fun s _ => ?_
        rw [pow_succ']; ring
      · simp
    rw [step a, step b] at h
    have a0 := ha 0 (by omega)
    have b0 := hb 0 (by omega)
    have h0 : a 0 = b 0 := by omega
    have h1 := ih (fun s => a (s + 1)) (fun s => b (s + 1)) (fun s hs => ha (s + 1) (by omega))
      (fun s hs => hb (s + 1) (by omega)) (by omega)
    intro s hs
    cases s with
    | zero => exact h0
    | succ s => exact h1 s (by omega)

/-- A sum over values below `S`, grouped by the value. -/
theorem sum_by_value {M : Type} [AddCommMonoid M] (K S : Nat) (c : Nat → Nat) (hc : ∀ k, k < K → c k < S) (f : Nat → M) :
    ∑ k ∈ Finset.range K, f (c k) = ∑ s ∈ Finset.range S, ((Finset.range K).filter (fun k => c k = s)).card • f s := by
  rw [← Finset.sum_fiberwise_of_maps_to (g := c) (t := Finset.range S)
    (fun k hk => Finset.mem_range.mpr (hc k (Finset.mem_range.mp hk)))]
  refine Finset.sum_congr rfl fun s _ => ?_
  rw [← Finset.sum_const]
  refine Finset.sum_congr rfl fun k hk => ?_
  rw [(Finset.mem_filter.mp hk).2]

/-- When the tally of the values is the number the counts spell, the values are summed by weighting with the counts. -/
theorem sum_of_tally (K S : Nat) (hK : K < 256) (c cn : Nat → Nat) (hc : ∀ k, k < K → c k < S) (hn : ∀ s, s < S → cn s < 256)
    (h : ∑ k ∈ Finset.range K, 256 ^ c k = ∑ s ∈ Finset.range S, 256 ^ s * cn s) (f : Nat → ℝ) :
    ∑ k ∈ Finset.range K, f (c k) = ∑ s ∈ Finset.range S, (cn s : ℝ) * f s := by
  rw [sum_by_value K S c hc f]
  rw [sum_by_value K S c hc (fun s => 256 ^ s)] at h
  have h2 := digits_unique S (fun s => ((Finset.range K).filter (fun k => c k = s)).card) cn
    (fun s _ => lt_of_le_of_lt (Finset.card_filter_le _ _) (by rw [Finset.card_range]; exact hK)) hn
    (by rw [← h]; exact Finset.sum_congr rfl fun s _ => by rw [smul_eq_mul, Nat.mul_comm])
  refine Finset.sum_congr rfl fun s hs => ?_
  rw [← h2 s (Finset.mem_range.mp hs), nsmul_eq_mul]

/-- The check of one pixel, of any samples `w`, their shifts' numbers `c`, what the shifts reach `sh` and the counts `cn`. -/
theorem of_check (c w sh cn : Nat → Nat) (hn : ∀ s, cn s < 256)
    (h : ((Nat.rec true (fun k b => (Nat.ble (c k) 15 && Nat.beq (sh (c k)) (w k)) && b) 64 : Bool)
      && Nat.beq (Nat.rec 0 (fun k a => a + 256 ^ c k) 64) (Nat.rec 0 (fun s a => a + 256 ^ s * cn s) 16)) = true) :
    (∀ k, k < 64 → c k < 16 ∧ sh (c k) = w k)
      ∧ ∀ f : Nat → ℝ, ∑ k ∈ Finset.range 64, f (w k) = ∑ s ∈ Finset.range 16, (cn s : ℝ) * f (sh s) := by
  rw [Bool.and_eq_true] at h
  have h1 := all_of_rec (fun k => Nat.ble (c k) 15 && Nat.beq (sh (c k)) (w k)) 64 h.1
  have h2 : ∀ k, k < 64 → c k < 16 ∧ sh (c k) = w k := by
    intro k hk
    have h3 := h1 k hk
    rw [Bool.and_eq_true] at h3
    exact ⟨Nat.lt_succ_of_le (Nat.le_of_ble_eq_true h3.1), Nat.eq_of_beq_eq_true h3.2⟩
  refine ⟨h2, fun f => ?_⟩
  have h4 := Nat.eq_of_beq_eq_true h.2
  rw [sum_of_rec (fun k => 256 ^ c k), sum_of_rec (fun s => 256 ^ s * cn s)] at h4
  rw [← sum_of_tally 64 16 (by decide) c cn (fun k hk => (h2 k hk).1) (fun s _ => hn s) h4 (fun s => f (sh s))]
  exact Finset.sum_congr rfl fun k hk => by rw [(h2 k (Finset.mem_range.mp hk)).2]

end Cert.Tab
-- ==== Proof.Tab.B01.lean ====
module

public import proofs.«01_k».proof.Proof.Table
import Mathlib.Tactic.IntervalCases

@[expose] public section

namespace Cert.Tab

set_option maxHeartbeats 0 in
/-- The pixels of blocks 0 to 20 are as they should be: by evaluating the two tables there. -/
theorem blocks_01 : ∀ b, 0 ≤ b → b < 21 → blockOk b = true := by
  intro b h0 h1
  interval_cases b <;> decide +kernel

end Cert.Tab
-- ==== Proof.Tab.B02.lean ====
module

public import proofs.«01_k».proof.Proof.Table
import Mathlib.Tactic.IntervalCases

@[expose] public section

namespace Cert.Tab

set_option maxHeartbeats 0 in
/-- The pixels of blocks 21 to 41 are as they should be: by evaluating the two tables there. -/
theorem blocks_02 : ∀ b, 21 ≤ b → b < 42 → blockOk b = true := by
  intro b h0 h1
  interval_cases b <;> decide +kernel

end Cert.Tab
-- ==== Proof.Tab.B03.lean ====
module

public import proofs.«01_k».proof.Proof.Table
import Mathlib.Tactic.IntervalCases

@[expose] public section

namespace Cert.Tab

set_option maxHeartbeats 0 in
/-- The pixels of blocks 42 to 62 are as they should be: by evaluating the two tables there. -/
theorem blocks_03 : ∀ b, 42 ≤ b → b < 63 → blockOk b = true := by
  intro b h0 h1
  interval_cases b <;> decide +kernel

end Cert.Tab
-- ==== Proof.Tab.B04.lean ====
module

public import proofs.«01_k».proof.Proof.Table
import Mathlib.Tactic.IntervalCases

@[expose] public section

namespace Cert.Tab

set_option maxHeartbeats 0 in
/-- The pixels of blocks 63 to 83 are as they should be: by evaluating the two tables there. -/
theorem blocks_04 : ∀ b, 63 ≤ b → b < 84 → blockOk b = true := by
  intro b h0 h1
  interval_cases b <;> decide +kernel

end Cert.Tab
-- ==== Proof.Tab.B05.lean ====
module

public import proofs.«01_k».proof.Proof.Table
import Mathlib.Tactic.IntervalCases

@[expose] public section

namespace Cert.Tab

set_option maxHeartbeats 0 in
/-- The pixels of blocks 84 to 104 are as they should be: by evaluating the two tables there. -/
theorem blocks_05 : ∀ b, 84 ≤ b → b < 105 → blockOk b = true := by
  intro b h0 h1
  interval_cases b <;> decide +kernel

end Cert.Tab
-- ==== Proof.Tab.B06.lean ====
module

public import proofs.«01_k».proof.Proof.Table
import Mathlib.Tactic.IntervalCases

@[expose] public section

namespace Cert.Tab

set_option maxHeartbeats 0 in
/-- The pixels of blocks 105 to 125 are as they should be: by evaluating the two tables there. -/
theorem blocks_06 : ∀ b, 105 ≤ b → b < 126 → blockOk b = true := by
  intro b h0 h1
  interval_cases b <;> decide +kernel

end Cert.Tab
-- ==== Proof.Tab.B07.lean ====
module

public import proofs.«01_k».proof.Proof.Table
import Mathlib.Tactic.IntervalCases

@[expose] public section

namespace Cert.Tab

set_option maxHeartbeats 0 in
/-- The pixels of blocks 126 to 146 are as they should be: by evaluating the two tables there. -/
theorem blocks_07 : ∀ b, 126 ≤ b → b < 147 → blockOk b = true := by
  intro b h0 h1
  interval_cases b <;> decide +kernel

end Cert.Tab
-- ==== Proof.Tab.B08.lean ====
module

public import proofs.«01_k».proof.Proof.Table
import Mathlib.Tactic.IntervalCases

@[expose] public section

namespace Cert.Tab

set_option maxHeartbeats 0 in
/-- The pixels of blocks 147 to 167 are as they should be: by evaluating the two tables there. -/
theorem blocks_08 : ∀ b, 147 ≤ b → b < 168 → blockOk b = true := by
  intro b h0 h1
  interval_cases b <;> decide +kernel

end Cert.Tab
-- ==== Proof.Tab.B09.lean ====
module

public import proofs.«01_k».proof.Proof.Table
import Mathlib.Tactic.IntervalCases

@[expose] public section

namespace Cert.Tab

set_option maxHeartbeats 0 in
/-- The pixels of blocks 168 to 188 are as they should be: by evaluating the two tables there. -/
theorem blocks_09 : ∀ b, 168 ≤ b → b < 189 → blockOk b = true := by
  intro b h0 h1
  interval_cases b <;> decide +kernel

end Cert.Tab
-- ==== Proof.Tab.B10.lean ====
module

public import proofs.«01_k».proof.Proof.Table
import Mathlib.Tactic.IntervalCases

@[expose] public section

namespace Cert.Tab

set_option maxHeartbeats 0 in
/-- The pixels of blocks 189 to 209 are as they should be: by evaluating the two tables there. -/
theorem blocks_10 : ∀ b, 189 ≤ b → b < 210 → blockOk b = true := by
  intro b h0 h1
  interval_cases b <;> decide +kernel

end Cert.Tab
-- ==== Proof.Tab.B11.lean ====
module

public import proofs.«01_k».proof.Proof.Table
import Mathlib.Tactic.IntervalCases

@[expose] public section

namespace Cert.Tab

set_option maxHeartbeats 0 in
/-- The pixels of blocks 210 to 230 are as they should be: by evaluating the two tables there. -/
theorem blocks_11 : ∀ b, 210 ≤ b → b < 231 → blockOk b = true := by
  intro b h0 h1
  interval_cases b <;> decide +kernel

end Cert.Tab
-- ==== Proof.Tab.B12.lean ====
module

public import proofs.«01_k».proof.Proof.Table
import Mathlib.Tactic.IntervalCases

@[expose] public section

namespace Cert.Tab

set_option maxHeartbeats 0 in
/-- The pixels of blocks 231 to 251 are as they should be: by evaluating the two tables there. -/
theorem blocks_12 : ∀ b, 231 ≤ b → b < 252 → blockOk b = true := by
  intro b h0 h1
  interval_cases b <;> decide +kernel

end Cert.Tab
-- ==== Proof.Tab.B13.lean ====
module

public import proofs.«01_k».proof.Proof.Table
import Mathlib.Tactic.IntervalCases

@[expose] public section

namespace Cert.Tab

set_option maxHeartbeats 0 in
/-- The pixels of blocks 252 to 272 are as they should be: by evaluating the two tables there. -/
theorem blocks_13 : ∀ b, 252 ≤ b → b < 273 → blockOk b = true := by
  intro b h0 h1
  interval_cases b <;> decide +kernel

end Cert.Tab
-- ==== Proof.Tab.B14.lean ====
module

public import proofs.«01_k».proof.Proof.Table
import Mathlib.Tactic.IntervalCases

@[expose] public section

namespace Cert.Tab

set_option maxHeartbeats 0 in
/-- The pixels of blocks 273 to 293 are as they should be: by evaluating the two tables there. -/
theorem blocks_14 : ∀ b, 273 ≤ b → b < 294 → blockOk b = true := by
  intro b h0 h1
  interval_cases b <;> decide +kernel

end Cert.Tab
-- ==== Proof.Tab.B15.lean ====
module

public import proofs.«01_k».proof.Proof.Table
import Mathlib.Tactic.IntervalCases

@[expose] public section

namespace Cert.Tab

set_option maxHeartbeats 0 in
/-- The pixels of blocks 294 to 314 are as they should be: by evaluating the two tables there. -/
theorem blocks_15 : ∀ b, 294 ≤ b → b < 315 → blockOk b = true := by
  intro b h0 h1
  interval_cases b <;> decide +kernel

end Cert.Tab
-- ==== Proof.Tab.B16.lean ====
module

public import proofs.«01_k».proof.Proof.Table
import Mathlib.Tactic.IntervalCases

@[expose] public section

namespace Cert.Tab

set_option maxHeartbeats 0 in
/-- The pixels of blocks 315 to 335 are as they should be: by evaluating the two tables there. -/
theorem blocks_16 : ∀ b, 315 ≤ b → b < 336 → blockOk b = true := by
  intro b h0 h1
  interval_cases b <;> decide +kernel

end Cert.Tab
-- ==== Proof.Tab.B17.lean ====
module

public import proofs.«01_k».proof.Proof.Table
import Mathlib.Tactic.IntervalCases

@[expose] public section

namespace Cert.Tab

set_option maxHeartbeats 0 in
/-- The pixels of blocks 336 to 356 are as they should be: by evaluating the two tables there. -/
theorem blocks_17 : ∀ b, 336 ≤ b → b < 357 → blockOk b = true := by
  intro b h0 h1
  interval_cases b <;> decide +kernel

end Cert.Tab
-- ==== Proof.Tab.B18.lean ====
module

public import proofs.«01_k».proof.Proof.Table
import Mathlib.Tactic.IntervalCases

@[expose] public section

namespace Cert.Tab

set_option maxHeartbeats 0 in
/-- The pixels of blocks 357 to 377 are as they should be: by evaluating the two tables there. -/
theorem blocks_18 : ∀ b, 357 ≤ b → b < 378 → blockOk b = true := by
  intro b h0 h1
  interval_cases b <;> decide +kernel

end Cert.Tab
-- ==== Proof.Tab.B19.lean ====
module

public import proofs.«01_k».proof.Proof.Table
import Mathlib.Tactic.IntervalCases

@[expose] public section

namespace Cert.Tab

set_option maxHeartbeats 0 in
/-- The pixels of blocks 378 to 398 are as they should be: by evaluating the two tables there. -/
theorem blocks_19 : ∀ b, 378 ≤ b → b < 399 → blockOk b = true := by
  intro b h0 h1
  interval_cases b <;> decide +kernel

end Cert.Tab
-- ==== Proof.Tab.B20.lean ====
module

public import proofs.«01_k».proof.Proof.Table
import Mathlib.Tactic.IntervalCases

@[expose] public section

namespace Cert.Tab

set_option maxHeartbeats 0 in
/-- The pixels of blocks 399 to 419 are as they should be: by evaluating the two tables there. -/
theorem blocks_20 : ∀ b, 399 ≤ b → b < 420 → blockOk b = true := by
  intro b h0 h1
  interval_cases b <;> decide +kernel

end Cert.Tab
-- ==== Proof.Tab.B21.lean ====
module

public import proofs.«01_k».proof.Proof.Table
import Mathlib.Tactic.IntervalCases

@[expose] public section

namespace Cert.Tab

set_option maxHeartbeats 0 in
/-- The pixels of blocks 420 to 440 are as they should be: by evaluating the two tables there. -/
theorem blocks_21 : ∀ b, 420 ≤ b → b < 441 → blockOk b = true := by
  intro b h0 h1
  interval_cases b <;> decide +kernel

end Cert.Tab
-- ==== Proof.TableFacts.lean ====
/- What the two tables say of every pixel: its samples are among the sixteen shifts of it, and a sum over its samples is the
   sum over the shifts weighted by the kernel's counts. -/
module

public import proofs.«01_k».proof.Proof.Count
public import proofs.«01_k».proof.Proof.Tab.B01
public import proofs.«01_k».proof.Proof.Tab.B02
public import proofs.«01_k».proof.Proof.Tab.B03
public import proofs.«01_k».proof.Proof.Tab.B04
public import proofs.«01_k».proof.Proof.Tab.B05
public import proofs.«01_k».proof.Proof.Tab.B06
public import proofs.«01_k».proof.Proof.Tab.B07
public import proofs.«01_k».proof.Proof.Tab.B08
public import proofs.«01_k».proof.Proof.Tab.B09
public import proofs.«01_k».proof.Proof.Tab.B10
public import proofs.«01_k».proof.Proof.Tab.B11
public import proofs.«01_k».proof.Proof.Tab.B12
public import proofs.«01_k».proof.Proof.Tab.B13
public import proofs.«01_k».proof.Proof.Tab.B14
public import proofs.«01_k».proof.Proof.Tab.B15
public import proofs.«01_k».proof.Proof.Tab.B16
public import proofs.«01_k».proof.Proof.Tab.B17
public import proofs.«01_k».proof.Proof.Tab.B18
public import proofs.«01_k».proof.Proof.Tab.B19
public import proofs.«01_k».proof.Proof.Tab.B20
public import proofs.«01_k».proof.Proof.Tab.B21
import Mathlib.Tactic.IntervalCases

@[expose] public section

namespace Cert.Tab

/-- Every block of sixteen pixels is as it should be. -/
theorem blocks (b : Nat) (h : b < 441) : blockOk b = true := by
  have h21 : b / 21 < 21 := by omega
  generalize hq : b / 21 = q at h21
  interval_cases q
  · exact blocks_01 b (by omega) (by omega)
  · exact blocks_02 b (by omega) (by omega)
  · exact blocks_03 b (by omega) (by omega)
  · exact blocks_04 b (by omega) (by omega)
  · exact blocks_05 b (by omega) (by omega)
  · exact blocks_06 b (by omega) (by omega)
  · exact blocks_07 b (by omega) (by omega)
  · exact blocks_08 b (by omega) (by omega)
  · exact blocks_09 b (by omega) (by omega)
  · exact blocks_10 b (by omega) (by omega)
  · exact blocks_11 b (by omega) (by omega)
  · exact blocks_12 b (by omega) (by omega)
  · exact blocks_13 b (by omega) (by omega)
  · exact blocks_14 b (by omega) (by omega)
  · exact blocks_15 b (by omega) (by omega)
  · exact blocks_16 b (by omega) (by omega)
  · exact blocks_17 b (by omega) (by omega)
  · exact blocks_18 b (by omega) (by omega)
  · exact blocks_19 b (by omega) (by omega)
  · exact blocks_20 b (by omega) (by omega)
  · exact blocks_21 b (by omega) (by omega)

/-- Every pixel is as it should be. -/
theorem pixels (n : Nat) (h : n < 7056) : pixelOk n = true := by
  have h1 := all_of_rec (fun j => pixelOk (16 * (n / 16) + j)) 16 (blocks (n / 16) (by omega)) (n % 16) (Nat.mod_lt _ (by decide))
  have h2 : 16 * (n / 16) + n % 16 = n := Nat.div_add_mod n 16
  have h3 : pixelOk (16 * (n / 16) + n % 16) = true := h1
  rwa [h2] at h3

/-- A count is a byte. -/
theorem cnt_lt (n s : Nat) : cnt n s < 256 := by
  unfold cnt
  generalize Cert.KernelIdeal.lit0t (7056 * s + n) = v
  exact v.isLt

/-- The samples of a pixel are shifts of it, and a sum over them is the sum over the shifts weighted by the counts. -/
theorem facts (n : Nat) (h : n < 7056) : (∀ k, k < 64 → code n k < 16 ∧ shift n (code n k) = sel n k)
    ∧ ∀ f : Nat → ℝ, ∑ k ∈ Finset.range 64, f (sel n k) = ∑ s ∈ Finset.range 16, (cnt n s : ℝ) * f (shift n s) := by
  have h1 := pixels n h
  unfold pixelOk entriesOk tally counts entryOk at h1
  exact of_check (code n) (sel n) (shift n) (cnt n) (cnt_lt n) h1

/-- A sampled pixel number is a pixel's. -/
theorem sel_lt (n k : Nat) (h : n < 7056) (hk : k < 64) : sel n k < 7056 := by
  rw [← ((facts n h).1 k hk).2]
  unfold shift
  omega

end Cert.Tab
-- ==== Proof.RefReal.lean ====
/- The reference's result of finite inputs: the same real number as the kernel's. -/
module

public import proofs.«01_k».proof.Proof.RefVal
public import proofs.«01_k».proof.Proof.KerVal
public import proofs.«01_k».proof.Proof.TableFacts

@[expose] public section

noncomputable section

namespace Cert.Agree

open Cert.ReferenceIdeal Cert.ReferenceIdeal.Gen Idealize.ShloMosaic Idealize.ShloMosaic.TcCoe Idealize.SL.Sem Cert.Ref Cert.Reals

/-- A row, of finite embeddings. -/
theorem row_real (A : Vec Ideal S128x84x84 .f32) (a : S128x84x84.Idx → ℝ) (hA : ∀ i, A i = ((a i : ℝ) : EReal)) (n : Fin 7056)
    (ch : Fin 128) : row A (ix2 n ch) = ((a (px ch n.val) : ℝ) : EReal) := by
  have h := n.isLt
  rw [row_apply, hA, px_eq ch (n.val / 84) (n.val % 84) n.val _ _ (Nat.div_add_mod _ _).symm]

/-- The temperature's quotient, of a real. -/
theorem over_tau (x : ℝ) : Ideal.exp (Ideal.div (Ideal.ofBits .f32 0x3F800000#32 + (Ideal.ofBits .f32 0x00000000#32 + (x : EReal)))
    (Ideal.ofBits .f32 0x3DCCCCCD#32)) = ((Real.exp ((1 + x) * (134217728 / 13421773)) : ℝ) : EReal) := by
  rw [Consts.one_word, Consts.zero_word, Consts.tau_word, ← EReal.coe_add, ← EReal.coe_add, div_real (by norm_num), Ideal.exp_coe]
  congr 2
  rw [zero_add]
  ring

/-- The own exponential, of finite embeddings. -/
theorem sims_own (A B : Vec Ideal S128x84x84 .f32) (a b : S128x84x84.Idx → ℝ) (hA : ∀ i, A i = ((a i : ℝ) : EReal))
    (hB : ∀ i, B i = ((b i : ℝ) : EReal)) (n : Fin 7056) :
    sims A B (ix2 n 0) = ((Real.exp (expo a b n.val n.val) : ℝ) : EReal) := by
  rw [sims_apply]
  simp only [samp_own, row_real A a hA, row_real B b hB, ← EReal.coe_mul, sum_cast]
  exact over_tau _

/-- A sample's exponential, of finite embeddings. -/
theorem sims_oth (A B : Vec Ideal S128x84x84 .f32) (a b : S128x84x84.Idx → ℝ) (hA : ∀ i, A i = ((a i : ℝ) : EReal))
    (hB : ∀ i, B i = ((b i : ℝ) : EReal)) (n : Fin 7056) (k : Fin 64) :
    sims A B (ix2 n k.succ) = ((Real.exp (expo a b n.val (Tab.sel n.val k.val)) : ℝ) : EReal) := by
  rw [sims_apply]
  have h : ∀ ch, samp B (ix3 n k.succ ch) = ((b (px ch (Tab.sel n.val k.val)) : ℝ) : EReal) := fun ch => by
    rw [samp_sel B n k ch (Tab.sel_lt n.val k.val n.isLt k.isLt), row_real B b hB]
  simp only [h, row_real A a hA, ← EReal.coe_mul, sum_cast]
  exact over_tau _

/-- The sum of a pixel's exponentials, of finite embeddings. -/
theorem sims_sum (A B : Vec Ideal S128x84x84 .f32) (a b : S128x84x84.Idx → ℝ) (hA : ∀ i, A i = ((a i : ℝ) : EReal))
    (hB : ∀ i, B i = ((b i : ℝ) : EReal)) (n : Fin 7056) :
    Ideal.ofBits .f32 0x00000000#32 + ∑ k : Fin 65, (sims A B (ix2 n k) : EReal) = ((tot a b n.val : ℝ) : EReal) := by
  have h := (Tab.facts n.val n.isLt).2 (fun w => Real.exp (expo a b n.val w))
  rw [Finset.sum_range (fun k => Real.exp (expo a b n.val (Tab.sel n.val k))),
    Finset.sum_range (fun s => (Tab.cnt n.val s : ℝ) * Real.exp (expo a b n.val (Tab.shift n.val s)))] at h
  rw [Fin.sum_univ_succ]
  simp only [sims_own A B a b hA hB, sims_oth A B a b hA hB, sum_cast]
  rw [h, Consts.zero_word, ← EReal.coe_add, ← EReal.coe_add, zero_add]
  rfl

/-- The reference's result of finite inputs. -/
theorem ref_val (A B : Vec Ideal S128x84x84 .f32) (M : Vec Ideal S84x84 .f32) (a b : S128x84x84.Idx → ℝ) (m : S84x84.Idx → ℝ)
    (hA : ∀ i, A i = ((a i : ℝ) : EReal)) (hB : ∀ i, B i = ((b i : ℝ) : EReal)) (hM : ∀ i, M i = ((m i : ℝ) : EReal)) (i : S1x1.Idx) :
    loss (quot (sims A B)) (masks M) i = ((lossR a b m : ℝ) : EReal) := by
  have hm : ∀ x y : Fin 7056, masks M (ix2 x y) = ((m (pm y.val) : ℝ) : EReal) := by
    intro x y
    have h := y.isLt
    rw [masks_apply, hM, pm_eq]
    congr 3
    exact Nat.div_add_mod _ _
  rw [loss_apply]
  simp only [quot_apply, hm, sims_own A B a b hA hB, sims_sum A B a b hA hB]
  exact ref_loss (fun p => expo a b p.val p.val) (fun p => tot a b p.val) (fun p => m (pm p.val)) (fun p => tot_pos a b p.val)

end Cert.Agree

end
-- ==== Proof.Finite.lean ====
/- What the precondition says: every element of the two embeddings and of the mask is a real number. -/
module

public import proofs.«01_k».proof.Proof.Consts
public import proofs.«01_k».proof.Pre_finite
public import Idealize.ShloMosaic.PureOps.Ideal

@[expose] public section

noncomputable section

namespace Cert.Finite

open Idealize.ShloMosaic

/-- An extended real whose magnitude is below infinity is a real. -/
theorem real_of_cmp (x : EReal) (h : Ideal.cmp .olt (max x (-x)) (Ideal.ofBits .f32 0x7F800000#32) = 1#1) : ∃ r : ℝ, x = (r : EReal) := by
  rw [Consts.top_word] at h
  induction x using EReal.rec with
  | bot => simp [Ideal.cmp] at h
  | top => simp [Ideal.cmp] at h
  | coe r => exact ⟨r, rfl⟩

/-- The precondition: the embeddings and the mask are arrays of reals. -/
theorem of_pre [Cert.Pre_finite.Facts] (a b : Vec Ideal Cert.Pre_finite.S128x84x84 .f32) (k w : Vec Ideal Cert.Pre_finite.S_ .i32)
    (m : Vec Ideal Cert.Pre_finite.S84x84 .f32)
    (h0 : (Cert.Pre_finite.fn (F := Ideal) a b k m w).1 = (fun _ => 1#1))
    (h1 : (Cert.Pre_finite.fn (F := Ideal) a b k m w).2.1 = (fun _ => 1#1))
    (h2 : (Cert.Pre_finite.fn (F := Ideal) a b k m w).2.2 = (fun _ => 1#1)) :
    (∃ ra : Cert.Pre_finite.S128x84x84.Idx → ℝ, ∀ i, a i = ((ra i : ℝ) : EReal))
      ∧ (∃ rb : Cert.Pre_finite.S128x84x84.Idx → ℝ, ∀ i, b i = ((rb i : ℝ) : EReal))
      ∧ ∃ rm : Cert.Pre_finite.S84x84.Idx → ℝ, ∀ i, m i = ((rm i : ℝ) : EReal) :=
  ⟨Classical.skolem.mp fun i => real_of_cmp (a i) (congrFun h0 i),
    Classical.skolem.mp fun i => real_of_cmp (b i) (congrFun h1 i),
    Classical.skolem.mp fun i => real_of_cmp (m i) (congrFun h2 i)⟩

end Cert.Finite

end
-- ==== Proof.Value.lean ====
/- The value claim's heart: of finite inputs the kernel's result and the reference's are one array. -/
module

public import proofs.«01_k».proof.Proof.RefReal
public import proofs.«01_k».proof.Proof.Finite

@[expose] public section

noncomputable section

namespace Cert.Agree

open Idealize.ShloMosaic Idealize.ShloMosaic.TcCoe Idealize.SL.Sem

/-- The precondition's shape facts. -/
theorem pre_facts : Cert.Pre_finite.Facts where
  bcast_S_S128x84x84 := by decide
  bcast_S_S84x84 := by decide

/-- From memories that agree on the arguments, the embeddings and the mask finite, the kernel's result is the reference's. -/
theorem results_eq [Cert.Pre_finite.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (A B : Vec Ideal Cert.KernelIdeal.S128x84x84 .f32) (M : Vec Ideal Cert.KernelIdeal.S84x84 .f32) (k w : Vec Ideal Cert.Pre_finite.S_ .i32)
    (kA : m ((c.tc : Thread Cert.KernelIdeal.nD Cert.KernelIdeal.τ).loc Cert.KernelIdeal.main_arg0) = A)
    (kB : m ((c.tc : Thread Cert.KernelIdeal.nD Cert.KernelIdeal.τ).loc Cert.KernelIdeal.main_arg1) = B)
    (kM : m ((c.tc : Thread Cert.KernelIdeal.nD Cert.KernelIdeal.τ).loc Cert.KernelIdeal.main_arg3) = M)
    (rA : m' ((c.tc : Thread Cert.ReferenceIdeal.nD Cert.ReferenceIdeal.τ).loc Cert.ReferenceIdeal.main_arg0) = A)
    (rB : m' ((c.tc : Thread Cert.ReferenceIdeal.nD Cert.ReferenceIdeal.τ).loc Cert.ReferenceIdeal.main_arg1) = B)
    (rM : m' ((c.tc : Thread Cert.ReferenceIdeal.nD Cert.ReferenceIdeal.τ).loc Cert.ReferenceIdeal.main_arg3) = M)
    (h0 : (Cert.Pre_finite.fn (F := Ideal) A B k M w).1 = (fun _ => 1#1))
    (h1 : (Cert.Pre_finite.fn (F := Ideal) A B k M w).2.1 = (fun _ => 1#1))
    (h2 : (Cert.Pre_finite.fn (F := Ideal) A B k M w).2.2 = (fun _ => 1#1)) :
    (Cert.ReferenceIdeal.Value.res_out0 m' c : Vec Ideal Cert.KernelIdeal.S1x1 .f32) = Cert.KernelIdeal.Value.G4 m c := by
  obtain ⟨⟨a, hA⟩, ⟨b, hB⟩, ⟨r, hM⟩⟩ := Cert.Finite.of_pre A B k w M h0 h1 h2
  refine (Cert.Ref.res_eq m' c).trans (Eq.trans ?_ (Cert.Body.result_eq m c).symm)
  rw [rA, rB, rM]
  refine funext fun i => (ref_val A B M a b r hA hB hM i).trans ?_
  refine (ker_val A B M a b r hA hB hM i).symm.trans ?_
  subst kA kB kM
  rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The reference runs, leaves its arguments as they were and every counter at zero: it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's 10 stands for the inverse of the temperature, which is a float. -/
theorem preserves : Cert.preserves_Kernel_KernelIdeal :=
  IdealRules.named_const.statement Cert.KernelIdeal.κ "inv_tau" .f32 0x41200000#32 ((134217728 / 13421773 : ℝ) : EReal) rfl

/-- Of finite inputs the kernel's loss is the reference's. -/
theorem algebraic : Cert.algebraic_KernelIdeal_ReferenceIdeal_pre_finite (hPre_finite := Cert.Agree.pre_facts) := by
  letI := Cert.Agree.pre_facts
  intro m ρ m' ρ' hp hm
  refine ⟨fun c => Cert.KernelIdeal.Value.G4 m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  exact Cert.Agree.results_eq m m' c _ _ _ _ _ rfl rfl rfl (hm c).1 (hm c).2.1 (hm c).2.2.2.1 (hp c).1 (hp c).2.1 (hp c).2.2

/-- Everything this certificate claims. -/
theorem claim : Cert.Claim := ⟨Cert.Kernel.Gen.facts, Cert.KernelIdeal.Gen.facts, Cert.ReferenceIdeal.Gen.facts, Cert.Agree.pre_facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, preserves, algebraic⟩

end Cert.Proof

end
